-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x3072x27648 : Shape := ⟨3, ![3, 3072, 27648]⟩
abbrev S3x3072x1 : Shape := ⟨3, ![3, 3072, 1]⟩
abbrev S27648x5120 : Shape := ⟨2, ![27648, 5120]⟩
abbrev S1x5120 : Shape := ⟨2, ![1, 5120]⟩
abbrev S9216x27648 : Shape := ⟨2, ![9216, 27648]⟩
abbrev S9216x1 : Shape := ⟨2, ![9216, 1]⟩
abbrev S9216x5120 : Shape := ⟨2, ![9216, 5120]⟩
abbrev S1024x1024 : Shape := ⟨2, ![1024, 1024]⟩
abbrev S1024x1 : Shape := ⟨2, ![1024, 1]⟩
abbrev S1024x5120 : Shape := ⟨2, ![1024, 5120]⟩
abbrev S512x1024 : Shape := ⟨2, ![512, 1024]⟩
abbrev S1024x512 : Shape := ⟨2, ![1024, 512]⟩
abbrev S512x512 : Shape := ⟨2, ![512, 512]⟩
abbrev S32x5120 : Shape := ⟨2, ![32, 5120]⟩
abbrev S32x1 : Shape := ⟨2, ![32, 1]⟩
abbrev S32 : Shape := ⟨1, ![32]⟩
abbrev S3x3072x5120 : Shape := ⟨3, ![3, 3072, 5120]⟩

abbrev nBuf : Space → Nat
  | .hbm => 10
  | .vmem => 12
  | .smem => 0
  | _ => 0

abbrev bufTy : (tb : Table) → Fin (tcTables nBuf tb) → BufTy
  | .hbm, ⟨0, _⟩ => ⟨S3x3072x27648, .fp8e4m3⟩
  | .hbm, ⟨1, _⟩ => ⟨S3x3072x1, .f32⟩
  | .hbm, ⟨2, _⟩ => ⟨S27648x5120, .fp8e4m3⟩
  | .hbm, ⟨3, _⟩ => ⟨S1x5120, .f32⟩
  | .hbm, ⟨4, _⟩ => ⟨S9216x27648, .fp8e4m3⟩
  | .hbm, ⟨5, _⟩ => ⟨S9216x1, .f32⟩
  | .hbm, ⟨6, _⟩ => ⟨S9216x1, .f32⟩
  | .hbm, ⟨7, _⟩ => ⟨S9216x5120, .fp8e4m3⟩
  | .hbm, ⟨8, _⟩ => ⟨S3x3072x1, .f32⟩
  | .hbm, ⟨9, _⟩ => ⟨S3x3072x5120, .fp8e4m3⟩
  | .local _ .vmem, ⟨0, _⟩ => ⟨S1024x1024, .fp8e4m3⟩
  | .local _ .vmem, ⟨1, _⟩ => ⟨S1024x1024, .fp8e4m3⟩
  | .local _ .vmem, ⟨2, _⟩ => ⟨S1024x1, .f32⟩
  | .local _ .vmem, ⟨3, _⟩ => ⟨S1024x1, .f32⟩
  | .local _ .vmem, ⟨4, _⟩ => ⟨S1024x5120, .fp8e4m3⟩
  | .local _ .vmem, ⟨5, _⟩ => ⟨S1024x5120, .fp8e4m3⟩
  | .local _ .vmem, ⟨6, _⟩ => ⟨S1x5120, .f32⟩
  | .local _ .vmem, ⟨7, _⟩ => ⟨S1024x1, .f32⟩
  | .local _ .vmem, ⟨8, _⟩ => ⟨S1024x1, .f32⟩
  | .local _ .vmem, ⟨9, _⟩ => ⟨S1024x5120, .fp8e4m3⟩
  | .local _ .vmem, ⟨10, _⟩ => ⟨S1024x5120, .fp8e4m3⟩
  | .local _ .vmem, ⟨11, _⟩ => ⟨S1024x5120, .f32⟩
  | _, _ => ⟨S3x3072x27648, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![9, 27], ![false, false]⟩

def k0_cond1 (i : grid0.Coords) : BitVec 1 :=
  let arg1 : BitVec 32 := BitVec.ofNat 32 (i 1).val
  let c26_i32 : BitVec 32 := 26#32
  let v240 : BitVec 1 := Scalar.cmpi .eq arg1 c26_i32
  let v241 : BitVec 32 := Scalar.extui v240
  let c0_i32_208 : BitVec 32 := 0#32
  let v242 : BitVec 1 := Scalar.cmpi .ne v241 c0_i32_208
  v242

@[reducible] def k0_t1_loop : Scf.Loop 32 :=
  let c0_i32_209 : BitVec 32 := 0#32
  let c32_i32 : BitVec 32 := 32#32
  let v243 : BitVec 32 := Scalar.addi c0_i32_209 c32_i32
  let c1_i32 : BitVec 32 := 1#32
  ⟨c0_i32_209, v243, c1_i32⟩
def k0_off1 (k0_t1 : Fin k0_t1_loop.trips) : Fin 2 → Nat :=
  let c0_i32_209 : BitVec 32 := 0#32
  let c1_i32 : BitVec 32 := 1#32
  let arg9 : BitVec 32 := Scf.iv c0_i32_209 c1_i32 k0_t1
  let c32_i32_211 : BitVec 32 := 32#32
  let v244 : BitVec 32 := Scalar.muli arg9 c32_i32_211
  let v245 : Index := Scalar.indexCast v244
  let c0_212 : Index := 0#32
  ![v245.toNat, 0]
def k0_off2 (k0_t1 : Fin k0_t1_loop.trips) : Fin 2 → Nat :=
  let c0_i32_209 : BitVec 32 := 0#32
  let c1_i32 : BitVec 32 := 1#32
  let arg9 : BitVec 32 := Scf.iv c0_i32_209 c1_i32 k0_t1
  let c32_i32_211 : BitVec 32 := 32#32
  let v244 : BitVec 32 := Scalar.muli arg9 c32_i32_211
  let v247 : Index := Scalar.indexCast v244
  let c0_213 : Index := 0#32
  ![v247.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x5120 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S3x3072x27648 : Shape := ⟨3, ![3, 3072, 27648]⟩
abbrev S3x3072x1 : Shape := ⟨3, ![3, 3072, 1]⟩
abbrev S27648x5120 : Shape := ⟨2, ![27648, 5120]⟩
abbrev S1x5120 : Shape := ⟨2, ![1, 5120]⟩
abbrev S9216x27648 : Shape := ⟨2, ![9216, 27648]⟩
abbrev S9216x1 : Shape := ⟨2, ![9216, 1]⟩
abbrev S9216x5120 : Shape := ⟨2, ![9216, 5120]⟩
abbrev S9216 : Shape := ⟨1, ![9216]⟩
abbrev S1x253 : Shape := ⟨2, ![1, 253]⟩
abbrev S9216x253 : Shape := ⟨2, ![9216, 253]⟩
abbrev S3x3072x5120 : Shape := ⟨3, ![3, 3072, 5120]⟩

abbrev nBuf : Space → Nat
  | .hbm => 10
  | .vmem => 6
  | .smem => 0
  | _ => 0

abbrev bufTy : (tb : Table) → Fin (tcTables nBuf tb) → BufTy
  | .hbm, ⟨0, _⟩ => ⟨S3x3072x27648, .fp8e4m3⟩
  | .hbm, ⟨1, _⟩ => ⟨S3x3072x1, .f32⟩
  | .hbm, ⟨2, _⟩ => ⟨S27648x5120, .fp8e4m3⟩
  | .hbm, ⟨3, _⟩ => ⟨S1x5120, .f32⟩
  | .hbm, ⟨4, _⟩ => ⟨S9216x27648, .fp8e4m3⟩
  | .hbm, ⟨5, _⟩ => ⟨S9216x1, .f32⟩
  | .hbm, ⟨6, _⟩ => ⟨S9216x1, .f32⟩
  | .hbm, ⟨7, _⟩ => ⟨S9216x5120, .fp8e4m3⟩
  | .hbm, ⟨8, _⟩ => ⟨S3x3072x1, .f32⟩
  | .hbm, ⟨9, _⟩ => ⟨S3x3072x5120, .fp8e4m3⟩
  | .local _ .vmem, ⟨0, _⟩ => ⟨S9216x27648, .fp8e4m3⟩
  | .local _ .vmem, ⟨1, _⟩ => ⟨S9216x1, .f32⟩
  | .local _ .vmem, ⟨2, _⟩ => ⟨S27648x5120, .fp8e4m3⟩
  | .local _ .vmem, ⟨3, _⟩ => ⟨S1x5120, .f32⟩
  | .local _ .vmem, ⟨4, _⟩ => ⟨S9216x1, .f32⟩
  | .local _ .vmem, ⟨5, _⟩ => ⟨S9216x5120, .fp8e4m3⟩
  | _, _ => ⟨S3x3072x27648, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S9216x27648 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S27648x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.P.Point.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One grid point of the kernel

What one grid point leaves in the accumulator (`accStep`), in the scales (`outScale`) and in the codes (`outCodes`), as closed
functions of the blocks it reads, and the two runs of the body: a step that only accumulates and the last step of a row block. -/

/-- One 512×512 chunk of the accumulation: the old chunk (zero at the first step of the contraction) plus the product of 512 rows of
    the left block with 512 columns of the right block. -/
def chunk (j : BitVec 32) (x : Vec F S512x1024 .fp8e4m3) (w : Vec F S1024x512 .fp8e4m3) (a : Vec F S512x512 .f32) : FVec F S512x512 .f32 :=
  shapeCast S512x512 (addf (Scalar.select (Scalar.cmpi .sgt j 0#32) a (broadcast S512x512 (Scalar.ofBits .f32 0x00000000#32)) : Vec F S512x512 .f32)
    (matmul dot_S512x1024_S1024x512_S512x512_1_0_0_1_n_n none (shapeCast S512x1024 x shapeCasts_S512x1024_S512x1024) w (constant S512x512 .f32 0x00000000#32)))
    shapeCasts_S512x512_S512x512

/-- The store of the chunk at row `r`, column `q`. -/
def piece (i : grid0.Coords) (x0 : Vec F S1024x1024 .fp8e4m3) (x2 : Vec F S1024x5120 .fp8e4m3) (xs : Vec F S1024x5120 .f32) {r q : ℕ}
    (hx : ∀ a, (![r, 0] : Fin 2 → Nat) a + S512x1024.size a ≤ S1024x1024.size a) (hw : ∀ a, (![0, q] : Fin 2 → Nat) a + S1024x512.size a ≤ S1024x5120.size a)
    (ha : ∀ a, (![r, q] : Fin 2 → Nat) a + S512x512.size a ≤ S1024x5120.size a) : View.Piece (Elt F) S1024x5120 .f32 :=
  ⟨Rect.unit ![r, q] S512x512.size ha,
    chunk (BitVec.ofNat 32 (i 1).val) (View.ld x0 (Rect.unit ![r, 0] S512x1024.size hx)) (View.ld x2 (Rect.unit ![0, q] S1024x512.size hw))
      (View.ld xs (Rect.unit ![r, q] S512x512.size ha))⟩

/-- The twenty chunk stores of one grid point, the last first. -/
def accPieces (i : grid0.Coords) (x0 : Vec F S1024x1024 .fp8e4m3) (x2 : Vec F S1024x5120 .fp8e4m3) (xs : Vec F S1024x5120 .f32) :
    List (View.Piece (Elt F) S1024x5120 .f32) :=
  [piece i x0 x2 xs inb_S1024x1024_S512x1024_512_0 inb_S1024x5120_S1024x512_0_4608 inb_S1024x5120_S512x512_512_4608,
    piece i x0 x2 xs inb_S1024x1024_S512x1024_512_0 inb_S1024x5120_S1024x512_0_4096 inb_S1024x5120_S512x512_512_4096,
    piece i x0 x2 xs inb_S1024x1024_S512x1024_512_0 inb_S1024x5120_S1024x512_0_3584 inb_S1024x5120_S512x512_512_3584,
    piece i x0 x2 xs inb_S1024x1024_S512x1024_512_0 inb_S1024x5120_S1024x512_0_3072 inb_S1024x5120_S512x512_512_3072,
    piece i x0 x2 xs inb_S1024x1024_S512x1024_512_0 inb_S1024x5120_S1024x512_0_2560 inb_S1024x5120_S512x512_512_2560,
    piece i x0 x2 xs inb_S1024x1024_S512x1024_512_0 inb_S1024x5120_S1024x512_0_2048 inb_S1024x5120_S512x512_512_2048,
    piece i x0 x2 xs inb_S1024x1024_S512x1024_512_0 inb_S1024x5120_S1024x512_0_1536 inb_S1024x5120_S512x512_512_1536,
    piece i x0 x2 xs inb_S1024x1024_S512x1024_512_0 inb_S1024x5120_S1024x512_0_1024 inb_S1024x5120_S512x512_512_1024,
    piece i x0 x2 xs inb_S1024x1024_S512x1024_512_0 inb_S1024x5120_S1024x512_0_512 inb_S1024x5120_S512x512_512_512,
    piece i x0 x2 xs inb_S1024x1024_S512x1024_512_0 inb_S1024x5120_S1024x512_0_0 inb_S1024x5120_S512x512_512_0,
    piece i x0 x2 xs inb_S1024x1024_S512x1024_0_0 inb_S1024x5120_S1024x512_0_4608 inb_S1024x5120_S512x512_0_4608,
    piece i x0 x2 xs inb_S1024x1024_S512x1024_0_0 inb_S1024x5120_S1024x512_0_4096 inb_S1024x5120_S512x512_0_4096,
    piece i x0 x2 xs inb_S1024x1024_S512x1024_0_0 inb_S1024x5120_S1024x512_0_3584 inb_S1024x5120_S512x512_0_3584,
    piece i x0 x2 xs inb_S1024x1024_S512x1024_0_0 inb_S1024x5120_S1024x512_0_3072 inb_S1024x5120_S512x512_0_3072,
    piece i x0 x2 xs inb_S1024x1024_S512x1024_0_0 inb_S1024x5120_S1024x512_0_2560 inb_S1024x5120_S512x512_0_2560,
    piece i x0 x2 xs inb_S1024x1024_S512x1024_0_0 inb_S1024x5120_S1024x512_0_2048 inb_S1024x5120_S512x512_0_2048,
    piece i x0 x2 xs inb_S1024x1024_S512x1024_0_0 inb_S1024x5120_S1024x512_0_1536 inb_S1024x5120_S512x512_0_1536,
    piece i x0 x2 xs inb_S1024x1024_S512x1024_0_0 inb_S1024x5120_S1024x512_0_1024 inb_S1024x5120_S512x512_0_1024,
    piece i x0 x2 xs inb_S1024x1024_S512x1024_0_0 inb_S1024x5120_S1024x512_0_512 inb_S1024x5120_S512x512_0_512,
    piece i x0 x2 xs inb_S1024x1024_S512x1024_0_0 inb_S1024x5120_S1024x512_0_0 inb_S1024x5120_S512x512_0_0]

/-- The chunks cover the accumulator. -/
theorem accPieces_cover (i : grid0.Coords) (x0 : Vec F S1024x1024 .fp8e4m3) (x2 : Vec F S1024x5120 .fp8e4m3) (xs : Vec F S1024x5120 .f32)
    (y : S1024x5120.Idx) : ∃ p ∈ accPieces i x0 x2 xs, y ∈ p.1.set :=
  View.cover_of_tiledL (accPieces i x0 x2 xs) S512x512.size (by sl_kernel_rfl) y

/-- The accumulator after one grid point that found `xs` in it. -/
def accStep (i : grid0.Coords) (x0 : Vec F S1024x1024 .fp8e4m3) (x2 : Vec F S1024x5120 .fp8e4m3) (xs : Vec F S1024x5120 .f32) : Vec F S1024x5120 .f32 :=
  View.canon (accPieces i x0 x2 xs)

/-- At the first step of the contraction what the accumulator held before does not matter. -/
theorem accStep_first (i : grid0.Coords) (x0 : Vec F S1024x1024 .fp8e4m3) (x2 : Vec F S1024x5120 .fp8e4m3) (xs xs' : Vec F S1024x5120 .f32)
    (h : (i 1).val = 0) : accStep i x0 x2 xs = accStep i x0 x2 xs' := by
  have hp : ∀ {r q : ℕ} (hx : ∀ a, (![r, 0] : Fin 2 → Nat) a + S512x1024.size a ≤ S1024x1024.size a) (hw : ∀ a, (![0, q] : Fin 2 → Nat) a + S1024x512.size a ≤ S1024x5120.size a)
      (ha : ∀ a, (![r, q] : Fin 2 → Nat) a + S512x512.size a ≤ S1024x5120.size a), piece i x0 x2 xs hx hw ha = piece i x0 x2 xs' hx hw ha := by
    intro r q hx hw ha
    unfold piece chunk
    rw [h]; rfl
  unfold accStep accPieces
  rw [hp inb_S1024x1024_S512x1024_512_0 inb_S1024x5120_S1024x512_0_4608 inb_S1024x5120_S512x512_512_4608, hp inb_S1024x1024_S512x1024_512_0 inb_S1024x5120_S1024x512_0_4096 inb_S1024x5120_S512x512_512_4096, hp inb_S1024x1024_S512x1024_512_0 inb_S1024x5120_S1024x512_0_3584 inb_S1024x5120_S512x512_512_3584, hp inb_S1024x1024_S512x1024_512_0 inb_S1024x5120_S1024x512_0_3072 inb_S1024x5120_S512x512_512_3072, hp inb_S1024x1024_S512x1024_512_0 inb_S1024x5120_S1024x512_0_2560 inb_S1024x5120_S512x512_512_2560, hp inb_S1024x1024_S512x1024_512_0 inb_S1024x5120_S1024x512_0_2048 inb_S1024x5120_S512x512_512_2048, hp inb_S1024x1024_S512x1024_512_0 inb_S1024x5120_S1024x512_0_1536 inb_S1024x5120_S512x512_512_1536, hp inb_S1024x1024_S512x1024_512_0 inb_S1024x5120_S1024x512_0_1024 inb_S1024x5120_S512x512_512_1024, hp inb_S1024x1024_S512x1024_512_0 inb_S1024x5120_S1024x512_0_512 inb_S1024x5120_S512x512_512_512, hp inb_S1024x1024_S512x1024_512_0 inb_S1024x5120_S1024x512_0_0 inb_S1024x5120_S512x512_512_0, hp inb_S1024x1024_S512x1024_0_0 inb_S1024x5120_S1024x512_0_4608 inb_S1024x5120_S512x512_0_4608, hp inb_S1024x1024_S512x1024_0_0 inb_S1024x5120_S1024x512_0_4096 inb_S1024x5120_S512x512_0_4096, hp inb_S1024x1024_S512x1024_0_0 inb_S1024x5120_S1024x512_0_3584 inb_S1024x5120_S512x512_0_3584, hp inb_S1024x1024_S512x1024_0_0 inb_S1024x5120_S1024x512_0_3072 inb_S1024x5120_S512x512_0_3072, hp inb_S1024x1024_S512x1024_0_0 inb_S1024x5120_S1024x512_0_2560 inb_S1024x5120_S512x512_0_2560, hp inb_S1024x1024_S512x1024_0_0 inb_S1024x5120_S1024x512_0_2048 inb_S1024x5120_S512x512_0_2048, hp inb_S1024x1024_S512x1024_0_0 inb_S1024x5120_S1024x512_0_1536 inb_S1024x5120_S512x512_0_1536, hp inb_S1024x1024_S512x1024_0_0 inb_S1024x5120_S1024x512_0_1024 inb_S1024x5120_S512x512_0_1024, hp inb_S1024x1024_S512x1024_0_0 inb_S1024x5120_S1024x512_0_512 inb_S1024x5120_S512x512_0_512, hp inb_S1024x1024_S512x1024_0_0 inb_S1024x5120_S1024x512_0_0 inb_S1024x5120_S512x512_0_0]

/-- One trip's scales: 32 rows of the accumulator `a`, their row scales `s`, the column scales `w`. -/
def tripScale (a : Vec F S32x5120 .f32) (s : Vec F S32x1 .f32) (w : Vec F S1x5120 .f32) : FVec F S32x1 .f32 :=
  k0_pay12 (k0_pay3 a s w) (k0_pay8 (k0_pay4 a s w) (k0_pay5 a s w) (k0_pay6 a s w) k0_pay7) (k0_pay9 (k0_pay4 a s w) (k0_pay5 a s w) (k0_pay6 a s w) k0_pay7) k0_pay10

/-- One trip's codes. -/
def tripCodes (a : Vec F S32x5120 .f32) (s : Vec F S32x1 .f32) (w : Vec F S1x5120 .f32) : FVec F S32x5120 .fp8e4m3 :=
  k0_pay13 (k0_pay2 a s w) (k0_pay3 a s w) (k0_pay8 (k0_pay4 a s w) (k0_pay5 a s w) (k0_pay6 a s w) k0_pay7)
    (k0_pay9 (k0_pay4 a s w) (k0_pay5 a s w) (k0_pay6 a s w) k0_pay7) k0_pay10

/-- 32 rows from row `32 b` of a 1024-row block lie inside it. -/
theorem rows_inb (b : Fin 32) : ∀ a, (![32 * b.val, 0] : Fin 2 → Nat) a + S32x5120.size a ≤ S1024x5120.size a :=
  Fin.forall_fin_two.mpr ⟨by have := b.isLt; show 32 * b.val + 32 ≤ 1024; omega, by show 0 + 5120 ≤ 5120; omega⟩
theorem rows1_inb (b : Fin 32) : ∀ a, (![32 * b.val, 0] : Fin 2 → Nat) a + S32x1.size a ≤ S1024x1.size a :=
  Fin.forall_fin_two.mpr ⟨by have := b.isLt; show 32 * b.val + 32 ≤ 1024; omega, by show 0 + 1 ≤ 1; omega⟩

/-- Rows `32 b` to `32 b + 31`. -/
abbrev rowsR (b : Fin 32) : Rect S1024x5120 := Rect.unit ![32 * b.val, 0] S32x5120.size (rows_inb b)
abbrev rows1R (b : Fin 32) : Rect S1024x1 := Rect.unit ![32 * b.val, 0] S32x1.size (rows1_inb b)

/-- The group of 32 rows that a row lies in. -/
abbrev grp (n : ℕ) (h : n < 1024) : Fin 32 := ⟨n / 32, by omega⟩

/-- The scales of a row block whose accumulator ended at `acc`. -/
def outScale (acc : Vec F S1024x5120 .f32) (x1 : Vec F S1024x1 .f32) (x3 : Vec F S1x5120 .f32) : Vec F S1024x1 .f32 := fun y =>
  tripScale (View.ld acc (rowsR (grp (y 0).val (y 0).isLt))) (View.ld x1 (rows1R (grp (y 0).val (y 0).isLt))) x3
    (Fin.cons ⟨(y 0).val % 32, Nat.mod_lt _ (by decide)⟩ (Fin.cons (y 1) (fun a => a.elim0)))

/-- The codes of a row block whose accumulator ended at `acc`. -/
def outCodes (acc : Vec F S1024x5120 .f32) (x1 : Vec F S1024x1 .f32) (x3 : Vec F S1x5120 .f32) : Vec F S1024x5120 .fp8e4m3 := fun y =>
  tripCodes (View.ld acc (rowsR (grp (y 0).val (y 0).isLt))) (View.ld x1 (rows1R (grp (y 0).val (y 0).isLt))) x3
    (Fin.cons ⟨(y 0).val % 32, Nat.mod_lt _ (by decide)⟩ (Fin.cons (y 1) (fun a => a.elim0)))

theorem outScale_emb (acc : Vec F S1024x5120 .f32) (x1 : Vec F S1024x1 .f32) (x3 : Vec F S1x5120 .f32) (b : Fin 32) (x : (rows1R b).shape.Idx) :
    tripScale (View.ld acc (rowsR b)) (View.ld x1 (rows1R b)) x3 x = outScale acc x1 x3 ((rows1R b).emb x) := by
  have h0 : (((rows1R b).emb x) 0).val = 32 * b.val + 1 * (x 0).val := rfl
  have hx : (x 0).val < 32 := (x 0).isLt
  have hb : grp (((rows1R b).emb x) 0).val (((rows1R b).emb x) 0).isLt = b := Fin.ext (by show _ / 32 = _; rw [h0]; omega)
  unfold outScale
  rw [hb]
  refine congrArg _ (funext fun a => Fin.ext ?_)
  revert a
  exact Fin.forall_fin_two.mpr ⟨by show (x 0).val = (((rows1R b).emb x) 0).val % 32; rw [h0]; omega, by
    show (x 1).val = 0 + 1 * (x 1).val; omega⟩

theorem outCodes_emb (acc : Vec F S1024x5120 .f32) (x1 : Vec F S1024x1 .f32) (x3 : Vec F S1x5120 .f32) (b : Fin 32) (x : (rowsR b).shape.Idx) :
    tripCodes (View.ld acc (rowsR b)) (View.ld x1 (rows1R b)) x3 x = outCodes acc x1 x3 ((rowsR b).emb x) := by
  have h0 : (((rowsR b).emb x) 0).val = 32 * b.val + 1 * (x 0).val := rfl
  have hx : (x 0).val < 32 := (x 0).isLt
  have hb : grp (((rowsR b).emb x) 0).val (((rowsR b).emb x) 0).isLt = b := Fin.ext (by show _ / 32 = _; rw [h0]; omega)
  unfold outCodes
  rw [hb]
  refine congrArg _ (funext fun a => Fin.ext ?_)
  revert a
  exact Fin.forall_fin_two.mpr ⟨by show (x 0).val = (((rowsR b).emb x) 0).val % 32; rw [h0]; omega, by
    show (x 1).val = 0 + 1 * (x 1).val; omega⟩

/-! ## The loop's stores -/

section Loop

variable (c : Dev nD) (i : grid0.Coords) (arg2 : Memref sig .tc .vmem S1024x1024 .fp8e4m3) (harg2 : arg2.IsWhole) (arg3 : Memref sig .tc .vmem S1024x1 .f32) (harg3 : arg3.IsWhole) (arg4 : Memref sig .tc .vmem S1024x5120 .fp8e4m3) (harg4 : arg4.IsWhole) (arg5 : Memref sig .tc .vmem S1x5120 .f32) (harg5 : arg5.IsWhole) (arg6 : Memref sig .tc .vmem S1024x1 .f32) (harg6 : arg6.IsWhole) (arg7 : Memref sig .tc .vmem S1024x5120 .fp8e4m3) (harg7 : arg7.IsWhole) (arg8 : Memref sig .tc .vmem S1024x5120 .f32) (harg8 : arg8.IsWhole) (k0_h1 : k0_cond1 i = 1#1)
  (X3 : BufTy.Contents (Elt F) arg3.view.ty) (X5 : BufTy.Contents (Elt F) arg5.view.ty) (X8 : BufTy.Contents (Elt F) arg8.view.ty)

theorem trips_eq : k0_t1_loop.trips = 32 := by decide +kernel

/-- What one trip stores: 32 scales and 32 rows of codes. -/
theorem trip_pieces (k : Fin k0_t1_loop.trips) :
    tripL_k0_t1 (F := F) Variants.none c none i arg2 harg2 arg3 harg3 arg4 harg4 arg5 harg5 arg6 harg6 arg7 harg7 arg8 harg8 k0_h1 X3 X5 X8 k
      = ([⟨Rect.unit (k0_off2 k) S32x1.size (k0_off2_inb i k k0_h1),
            tripScale (View.ld (arg8.view.read (Elt F) X8) (Rect.unit (k0_off1 k) S32x5120.size (k0_off1_inb i k k0_h1)))
              (View.ld (arg3.view.read (Elt F) X3) (Rect.unit (k0_off2 k) S32x1.size (k0_off2_inb i k k0_h1)))
              (View.ld (arg5.view.read (Elt F) X5) (Rect.unit ![0, 0] S1x5120.size inb_S1x5120_S1x5120_0_0))⟩],
         [⟨Rect.unit (k0_off1 k) S32x5120.size (k0_off1_inb i k k0_h1),
            tripCodes (View.ld (arg8.view.read (Elt F) X8) (Rect.unit (k0_off1 k) S32x5120.size (k0_off1_inb i k k0_h1)))
              (View.ld (arg3.view.read (Elt F) X3) (Rect.unit (k0_off2 k) S32x1.size (k0_off2_inb i k k0_h1)))
              (View.ld (arg5.view.read (Elt F) X5) (Rect.unit ![0, 0] S1x5120.size inb_S1x5120_S1x5120_0_0))⟩]) := by
  unfold tripL_k0_t1 trip_k0_t1
  rfl

end Loop
end Cert.Kernel.Run
end
-- ==== Proof.P.Run.lean ====
module

public import proofs.«01_k».proof.Proof.P.Point

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store of 32 scales, its offsets told in closed form, is a store of rows of `outScale`; -/
theorem scale_piece_eq (b : Fin 32) (acc : Vec F S1024x5120 .f32) (x1 : Vec F S1024x1 .f32) (x3 : Vec F S1x5120 .f32) (o1 o2 : Fin 2 → Nat)
    (h1 : o1 = ![32 * b.val, 0]) (h2 : o2 = ![32 * b.val, 0]) (i1 : ∀ a, o1 a + S32x5120.size a ≤ S1024x5120.size a) (i2 : ∀ a, o2 a + S32x1.size a ≤ S1024x1.size a) :
    (⟨Rect.unit o2 S32x1.size i2, tripScale (View.ld acc (Rect.unit o1 S32x5120.size i1)) (View.ld x1 (Rect.unit o2 S32x1.size i2)) x3⟩ : View.Piece (Elt F) S1024x1 .f32)
      = ⟨rows1R b, fun x => outScale acc x1 x3 ((rows1R b).emb x)⟩ := by
  subst h1; subst h2
  exact congrArg (fun w => (⟨rows1R b, w⟩ : View.Piece (Elt F) S1024x1 .f32)) (funext fun x => outScale_emb acc x1 x3 b x)

/-- and a store of 32 rows of codes one of rows of `outCodes`. -/
theorem codes_piece_eq (b : Fin 32) (acc : Vec F S1024x5120 .f32) (x1 : Vec F S1024x1 .f32) (x3 : Vec F S1x5120 .f32) (o1 o2 : Fin 2 → Nat)
    (h1 : o1 = ![32 * b.val, 0]) (h2 : o2 = ![32 * b.val, 0]) (i1 : ∀ a, o1 a + S32x5120.size a ≤ S1024x5120.size a) (i2 : ∀ a, o2 a + S32x1.size a ≤ S1024x1.size a) :
    (⟨Rect.unit o1 S32x5120.size i1, tripCodes (View.ld acc (Rect.unit o1 S32x5120.size i1)) (View.ld x1 (Rect.unit o2 S32x1.size i2)) x3⟩ : View.Piece (Elt F) S1024x5120 .fp8e4m3)
      = ⟨rowsR b, fun x => outCodes acc x1 x3 ((rowsR b).emb x)⟩ := by
  subst h1; subst h2
  exact congrArg (fun w => (⟨rowsR b, w⟩ : View.Piece (Elt F) S1024x5120 .fp8e4m3)) (funext fun x => outCodes_emb acc x1 x3 b x)

section Loop

variable (c : Dev nD) (i : grid0.Coords) (arg2 : Memref sig .tc .vmem S1024x1024 .fp8e4m3) (harg2 : arg2.IsWhole) (arg3 : Memref sig .tc .vmem S1024x1 .f32) (harg3 : arg3.IsWhole) (arg4 : Memref sig .tc .vmem S1024x5120 .fp8e4m3) (harg4 : arg4.IsWhole) (arg5 : Memref sig .tc .vmem S1x5120 .f32) (harg5 : arg5.IsWhole) (arg6 : Memref sig .tc .vmem S1024x1 .f32) (harg6 : arg6.IsWhole) (arg7 : Memref sig .tc .vmem S1024x5120 .fp8e4m3) (harg7 : arg7.IsWhole) (arg8 : Memref sig .tc .vmem S1024x5120 .f32) (harg8 : arg8.IsWhole) (k0_h1 : k0_cond1 i = 1#1)
  (X3 : BufTy.Contents (Elt F) arg3.view.ty) (X5 : BufTy.Contents (Elt F) arg5.view.ty) (X8 : BufTy.Contents (Elt F) arg8.view.ty)

/-- The stores of trip `k` are rows of `outScale` and of `outCodes`. -/
theorem trip_pieces' (k : Fin k0_t1_loop.trips) :
    tripL_k0_t1 (F := F) Variants.none c none i arg2 harg2 arg3 harg3 arg4 harg4 arg5 harg5 arg6 harg6 arg7 harg7 arg8 harg8 k0_h1 X3 X5 X8 k
      = ([⟨rows1R (k.cast trips_eq), fun x => outScale (arg8.view.read (Elt F) X8) (arg3.view.read (Elt F) X3) (arg5.view.read (Elt F) X5) ((rows1R (k.cast trips_eq)).emb x)⟩],
         [⟨rowsR (k.cast trips_eq), fun x => outCodes (arg8.view.read (Elt F) X8) (arg3.view.read (Elt F) X3) (arg5.view.read (Elt F) X5) ((rowsR (k.cast trips_eq)).emb x)⟩]) := by
  rw [trip_pieces, View.ld_unit_zero (by funext a; revert a; exact Fin.forall_fin_two.mpr ⟨rfl, rfl⟩)]
  exact Prod.ext (congrArg (fun p => [p]) (scale_piece_eq (k.cast trips_eq) _ _ _ _ _ (k0_off1_eq k) (k0_off2_eq k) _ _))
    (congrArg (fun p => [p]) (codes_piece_eq (k.cast trips_eq) _ _ _ _ _ (k0_off1_eq k) (k0_off2_eq k) _ _))

/-- The stores of the trips before `n` are rows of `outScale` and `outCodes`, and every trip before `n` has its stores among them. -/
theorem pb_pieces (n : ℕ) (hn : n ≤ k0_t1_loop.trips) :
    (pb_k0_t1 (F := F) Variants.none c none i arg2 harg2 arg3 harg3 arg4 harg4 arg5 harg5 arg6 harg6 arg7 harg7 arg8 harg8 k0_h1 X3 X5 X8 n)
      = ((List.ofFn fun k : Fin n => (⟨rows1R ((k.castLE hn).cast trips_eq), fun x => outScale (arg8.view.read (Elt F) X8) (arg3.view.read (Elt F) X3) (arg5.view.read (Elt F) X5) ((rows1R ((k.castLE hn).cast trips_eq)).emb x)⟩ : View.Piece (Elt F) S1024x1 .f32)).reverse,
         (List.ofFn fun k : Fin n => (⟨rowsR ((k.castLE hn).cast trips_eq), fun x => outCodes (arg8.view.read (Elt F) X8) (arg3.view.read (Elt F) X3) (arg5.view.read (Elt F) X5) ((rowsR ((k.castLE hn).cast trips_eq)).emb x)⟩ : View.Piece (Elt F) S1024x5120 .fp8e4m3)).reverse) := by
  induction n with
  | zero => rfl
  | succ n ih =>
    have h := pb_k0_t1_succ (F := F) Variants.none c none i arg2 harg2 arg3 harg3 arg4 harg4 arg5 harg5 arg6 harg6 arg7 harg7 arg8 harg8 k0_h1 X3 X5 X8 ⟨n, hn⟩
    refine h.trans ?_
    rw [trip_pieces']
    have ih' := ih (Nat.le_of_succ_le hn)
    rw [show (⟨n, hn⟩ : Fin k0_t1_loop.trips).val = n from rfl, ih', List.ofFn_succ_last, List.ofFn_succ_last, List.reverse_append, List.reverse_append]
    rfl

/-- After the loop the scale buffer holds `outScale` of the accumulator, -/
theorem read_scale {sp : Space} (v : View sig .tc sp S1024x1 .f32) (f : v.ty.Contents (Elt F)) :
    v.read (Elt F) (v.writes (Elt F) f (pb_k0_t1 (F := F) Variants.none c none i arg2 harg2 arg3 harg3 arg4 harg4 arg5 harg5 arg6 harg6 arg7 harg7 arg8 harg8 k0_h1 X3 X5 X8 k0_t1_loop.trips).1)
      = outScale (arg8.view.read (Elt F) X8) (arg3.view.read (Elt F) X3) (arg5.view.read (Elt F) X5) := by
  rw [pb_pieces c i arg2 harg2 arg3 harg3 arg4 harg4 arg5 harg5 arg6 harg6 arg7 harg7 arg8 harg8 k0_h1 X3 X5 X8 _ (Nat.le_refl _)]
  funext y
  refine View.read_writes_apply_of_pieces v f _ _ ?_ y ?_
  · intro p hp x
    rw [List.mem_reverse, List.mem_ofFn] at hp
    obtain ⟨k, rfl⟩ := hp
    rfl
  · have hy : (y 0).val < 1024 := (y 0).isLt
    have hk : (y 0).val / 32 < k0_t1_loop.trips := by rw [trips_eq]; omega
    refine ⟨_, List.mem_reverse.mpr (List.mem_ofFn.mpr ⟨⟨(y 0).val / 32, hk⟩, rfl⟩), ?_⟩
    refine (Rect.mem_set_unit (inb := rows1_inb ⟨(y 0).val / 32, by omega⟩)).mpr ?_
    exact Fin.forall_fin_two.mpr ⟨by show 32 * ((y 0).val / 32) ≤ (y 0).val ∧ (y 0).val < 32 * ((y 0).val / 32) + 32; omega, by
      have := (y 1).isLt; show 0 ≤ (y 1).val ∧ (y 1).val < 0 + 1; exact ⟨by omega, by simpa using this⟩⟩

/-- and the code buffer `outCodes` of it. -/
theorem read_codes {sp : Space} (v : View sig .tc sp S1024x5120 .fp8e4m3) (f : v.ty.Contents (Elt F)) :
    v.read (Elt F) (v.writes (Elt F) f (pb_k0_t1 (F := F) Variants.none c none i arg2 harg2 arg3 harg3 arg4 harg4 arg5 harg5 arg6 harg6 arg7 harg7 arg8 harg8 k0_h1 X3 X5 X8 k0_t1_loop.trips).2)
      = outCodes (arg8.view.read (Elt F) X8) (arg3.view.read (Elt F) X3) (arg5.view.read (Elt F) X5) := by
  rw [pb_pieces c i arg2 harg2 arg3 harg3 arg4 harg4 arg5 harg5 arg6 harg6 arg7 harg7 arg8 harg8 k0_h1 X3 X5 X8 _ (Nat.le_refl _)]
  funext y
  refine View.read_writes_apply_of_pieces v f _ _ ?_ y ?_
  · intro p hp x
    rw [List.mem_reverse, List.mem_ofFn] at hp
    obtain ⟨k, rfl⟩ := hp
    rfl
  · have hy : (y 0).val < 1024 := (y 0).isLt
    have hk : (y 0).val / 32 < k0_t1_loop.trips := by rw [trips_eq]; omega
    refine ⟨_, List.mem_reverse.mpr (List.mem_ofFn.mpr ⟨⟨(y 0).val / 32, hk⟩, rfl⟩), ?_⟩
    refine (Rect.mem_set_unit (inb := rows_inb ⟨(y 0).val / 32, by omega⟩)).mpr ?_
    exact Fin.forall_fin_two.mpr ⟨by show 32 * ((y 0).val / 32) ≤ (y 0).val ∧ (y 0).val < 32 * ((y 0).val / 32) + 32; omega, by
      have := (y 1).isLt; show 0 ≤ (y 1).val ∧ (y 1).val < 0 + 5120; exact ⟨by omega, by simpa using this⟩⟩

end Loop

/-! ## The two runs of the body -/

section Runs

variable (c : Dev nD) (i : grid0.Coords) (arg2 : Memref sig .tc .vmem S1024x1024 .fp8e4m3) (harg2 : arg2.IsWhole) (arg3 : Memref sig .tc .vmem S1024x1 .f32) (harg3 : arg3.IsWhole) (arg4 : Memref sig .tc .vmem S1024x5120 .fp8e4m3) (harg4 : arg4.IsWhole) (arg5 : Memref sig .tc .vmem S1x5120 .f32) (harg5 : arg5.IsWhole) (arg6 : Memref sig .tc .vmem S1024x1 .f32) (harg6 : arg6.IsWhole) (arg7 : Memref sig .tc .vmem S1024x5120 .fp8e4m3) (harg7 : arg7.IsWhole) (arg8 : Memref sig .tc .vmem S1024x5120 .f32) (harg8 : arg8.IsWhole)

/-- The accumulator's contents after the twenty stores are `accStep`. -/
theorem read_acc (x0 : Vec F S1024x1024 .fp8e4m3) (x2 : Vec F S1024x5120 .fp8e4m3) (xs : Vec F S1024x5120 .f32) {sp : Space}
    (v : View sig .tc sp S1024x5120 .f32) (f : v.ty.Contents (Elt F)) :
    v.read (Elt F) (v.writes (Elt F) f (accPieces i x0 x2 xs)) = accStep i x0 x2 xs :=
  View.read_writes_eq_canon v f _ (accPieces_cover i x0 x2 xs)

set_option maxHeartbeats 1000000 in
/-- A grid point that is not the last of its row block: it only accumulates. -/
theorem run_acc (hc1 : ¬k0_cond1 i = 1#1) (x0 : Vec F S1024x1024 .fp8e4m3) (x2 : Vec F S1024x5120 .fp8e4m3) (xs : Vec F S1024x5120 .f32)
    (E : Set ℕ) (K : PUnit → sProp 𝕄) :
    iprop(owns (c : Thread nD τ) arg2 fullShare x0 ∗ owns (c : Thread nD τ) arg4 fullShare x2 ∗ owns (c : Thread nD τ) arg8 fullShare xs
        ∗ (iprop(owns (c : Thread nD τ) arg2 fullShare x0 ∗ owns (c : Thread nD τ) arg4 fullShare x2 ∗ owns (c : Thread nD τ) arg8 fullShare (accStep i x0 x2 xs)) -∗ K ⟨⟩))
      ⊢ wp frame (wpE (defs₀ (F := F)) Variants.none c none) E (cc0_fp8_linear_requant i arg2 harg2 arg3 harg3 arg4 harg4 arg5 harg5 arg6 harg6 arg7 harg7 arg8 harg8) K := by
  simp only [cc0_fp8_linear_requant_eq_skeleton]; unfold cc0_fp8_linear_requant_skel
  simp only [k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f2, %hf2, H2⟩, ⟨%fs, %hfs, HS⟩, Hk⟩
  subst hf0; subst hf2; subst hfs
  sl_exec (disch := first | sl_exact hc1)
  sl_step
  iapply Hk
  isplitl [H0]
  · iexists _; isplitr; · ipureintro; rfl
    iexact H0
  isplitl [H2]
  · iexists _; isplitr; · ipureintro; rfl
    iexact H2
  iexists _; isplitr; swap; · iexact HS
  ipureintro
  exact read_acc i (arg2.view.read (Elt F) f0) (arg4.view.read (Elt F) f2) (arg8.view.read (Elt F) fs) arg8.view fs

set_option maxHeartbeats 1000000 in
/-- The last grid point of a row block: it accumulates and requantises the accumulator. -/
theorem run_last (hc1 : k0_cond1 i = 1#1) (x0 : Vec F S1024x1024 .fp8e4m3) (x1 : Vec F S1024x1 .f32) (x2 : Vec F S1024x5120 .fp8e4m3) (x3 : Vec F S1x5120 .f32)
    (xs : Vec F S1024x5120 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (outScale (accStep i x0 x2 xs) x1 x3) ∗ owns (c : Thread nD τ) arg7 fullShare (outCodes (accStep i x0 x2 xs) x1 x3)
            ∗ owns (c : Thread nD τ) arg8 fullShare (accStep i x0 x2 xs)) -∗ K ⟨⟩))
      ⊢ wp frame (wpE (defs₀ (F := F)) Variants.none c none) E (cc0_fp8_linear_requant i arg2 harg2 arg3 harg3 arg4 harg4 arg5 harg5 arg6 harg6 arg7 harg7 arg8 harg8) K := by
  simp only [cc0_fp8_linear_requant_eq_skeleton]; unfold cc0_fp8_linear_requant_skel
  simp only [k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%d6, ⟨%f6, %hf6, H6⟩⟩, ⟨%d7, ⟨%f7, %hf7, H7⟩⟩, ⟨%fs, %hfs, HS⟩, Hk⟩
  subst hf0; subst hf1; subst hf2; subst hf3; subst hfs
  sl_exec (disch := first | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H6]
  · iexists _; isplitr; swap; · iexact H6
    ipureintro
    refine (read_scale c i arg2 harg2 arg3 harg3 arg4 harg4 arg5 harg5 arg6 harg6 arg7 harg7 arg8 harg8 hc1 f1 f3 _ arg6.view f6).trans ?_
    exact congrArg (fun X => outScale X _ _) (read_acc i (arg2.view.read (Elt F) f0) (arg4.view.read (Elt F) f2) (arg8.view.read (Elt F) fs) arg8.view _)
  isplitl [H7]
  · iexists _; isplitr; swap; · iexact H7
    ipureintro
    refine (read_codes c i arg2 harg2 arg3 harg3 arg4 harg4 arg5 harg5 arg6 harg6 arg7 harg7 arg8 harg8 hc1 f1 f3 _ arg7.view f7).trans ?_
    exact congrArg (fun X => outCodes X _ _) (read_acc i (arg2.view.read (Elt F) f0) (arg4.view.read (Elt F) f2) (arg8.view.read (Elt F) fs) arg8.view _)
  iexists _; isplitr; swap; · iexact HS
  ipureintro
  exact read_acc i (arg2.view.read (Elt F) f0) (arg4.view.read (Elt F) f2) (arg8.view.read (Elt F) fs) arg8.view _

end Runs
end Cert.Kernel.Run
end
-- ==== Proof.P.Frame.lean ====
/- The kernel's run: the pipeline's proof data from the body's two triples (Run.lean), the body obligation at every grid
   point, the launch, and the frame claim. -/
module

public import proofs.«01_k».proof.Proof.P.Run
public import proofs.«01_k».proof.Proof.Gen.Kernel.Frame
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The epilogue runs exactly at the last point of each row block: the points ≡ 26 (mod 27). -/
theorem hcond : ∀ t : Fin cfg0.N, k0_cond1 (grid0.coords t) = 1#1 ↔ t.val % 27 = 26 :=
  (fun t => by
    have ht : t.val < 243 := Nat.lt_of_lt_of_eq t.isLt N_0
    have e0 : (grid0.coords t 0).val = t.val / 27 % 9 := Pipeline.Grid.coords_val t 0 (by decide) rfl
    have e1 : (grid0.coords t 1).val = t.val / 1 % 27 := Pipeline.Grid.coords_val t 1 (by decide) rfl
    simp only [k0_cond1, e0, e1]
    word_cmp
   : ∀ t : Fin grid0.N, k0_cond1 (grid0.coords t) = 1#1 ↔ t.val % 27 = 26)

/-- The second coordinate of point `t`. -/
theorem coord1 : ∀ t : Fin cfg0.N, (grid0.coords t 1).val = t.val % 27 :=
  (fun t => by
    have e1 : (grid0.coords t 1).val = t.val / 1 % 27 := Pipeline.Grid.coords_val t 1 (by decide) rfl
    rw [e1, Nat.div_one]
   : ∀ t : Fin grid0.N, (grid0.coords t 1).val = t.val % 27)

/-- The first coordinate of point `t`. -/
theorem coord0 : ∀ t : Fin cfg0.N, (grid0.coords t 0).val = t.val / 27 :=
  (fun t => by
    have ht : t.val < 243 := Nat.lt_of_lt_of_eq t.isLt N_0
    have e0 : (grid0.coords t 0).val = t.val / 27 % 9 := Pipeline.Grid.coords_val t 0 (by decide) rfl
    rw [e0]; omega
   : ∀ t : Fin grid0.N, (grid0.coords t 0).val = t.val / 27)

/-- Away from the epilogue's points output 4 is idle. -/
theorem idle4 (t : Fin cfg0.N) (h : ¬t.val % 27 = 26) : cfg0.idle 4 (cfg0.grid.coords t) = true := by
  show (!(k0_cond1 (grid0.coords t) == 1#1)) = true
  simp only [Bool.not_eq_true', beq_eq_false_iff_ne]
  exact fun e => h ((hcond t).mp e)
/-- Away from the epilogue's points output 5 is idle. -/
theorem idle5 (t : Fin cfg0.N) (h : ¬t.val % 27 = 26) : cfg0.idle 5 (cfg0.grid.coords t) = true := by
  show (!(k0_cond1 (grid0.coords t) == 1#1)) = true
  simp only [Bool.not_eq_true', beq_eq_false_iff_ne]
  exact fun e => h ((hcond t).mp e)
/-- At the epilogue's points output 4 is live. -/
theorem live4 (t : Fin cfg0.N) (h : t.val % 27 = 26) : cfg0.idle 4 (cfg0.grid.coords t) = false := by
  show (!(k0_cond1 (grid0.coords t) == 1#1)) = false
  rw [(hcond t).mpr h]; rfl
/-- At the epilogue's points output 5 is live. -/
theorem live5 (t : Fin cfg0.N) (h : t.val % 27 = 26) : cfg0.idle 5 (cfg0.grid.coords t) = false := by
  show (!(k0_cond1 (grid0.coords t) == 1#1)) = false
  rw [(hcond t).mpr h]; rfl
/-- Away from the epilogue's points output 4 is not written back. -/
theorem noFlush4 (t : Fin cfg0.N) (h : ¬t.val % 27 = 26) : (cfg0.win 4).flush t = false :=
  Bool.eq_false_iff.mpr fun e => h ((flush0_4 t).mp e)
/-- Away from the epilogue's points output 5 is not written back. -/
theorem noFlush5 (t : Fin cfg0.N) (h : ¬t.val % 27 = 26) : (cfg0.win 5).flush t = false :=
  Bool.eq_false_iff.mpr fun e => h ((flush0_5 t).mp e)

/-! ## The accumulator point by point -/

/-- The accumulator buffer. -/
abbrev scM : Memref sig .tc .vmem S1024x5120 .f32 := Memref.whole cc0_scratch0

/-- What the pipeline keeps between points before the first: the accumulator at anything, the generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The accumulator after the first `n` points (before the first: nothing that matters). -/
def scr (c : Dev nD) : (n : ℕ) → n ≤ cfg0.N → Vec F S1024x5120 .f32
  | 0, _ => View.canon []
  | n + 1, hn => accStep (grid0.coords ⟨n, hn⟩) (iblk m c 0 ⟨n, hn⟩) (iblk m c 2 ⟨n, hn⟩) (scr c n (Nat.le_of_lt hn))

/-- The accumulator after point `t`. -/
abbrev scrAt (c : Dev nD) (t : Fin cfg0.N) : Vec F S1024x5120 .f32 := scr m c (t.val + 1) t.isLt

/-- One point's step. -/
theorem scrAt_eq (c : Dev nD) (t : Fin cfg0.N) :
    scrAt m c t = accStep (grid0.coords t) (iblk m c 0 t) (iblk m c 2 t) (scr m c t.val (Nat.le_of_lt t.isLt)) := rfl

/-- The first point of a row block does not look at what the accumulator held. -/
theorem scrAt_first (c : Dev nD) (t : Fin cfg0.N) (h : t.val % 27 = 0) (d : Vec F S1024x5120 .f32) :
    scrAt m c t = accStep (grid0.coords t) (iblk m c 0 t) (iblk m c 2 t) d :=
  accStep_first _ _ _ _ _ ((coord1 t).trans h)

/-- The invariant before point `n`: before the first the accumulator at anything, afterwards at `scr`; and the
    generator register at some state. -/
def PhiS (c : Dev nD) : (n : ℕ) → n ≤ cfg0.N → sProp 𝕄
  | 0, _ => Pipeline.ΦA spec0 c
  | n + 1, hn => iprop(iprop(owns (c : Thread nD τ) scM fullShare (scr m c (n + 1) hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (scr m c (n + 1) hn)) ∗ (∃ r, prngReg c r)) := rfl

theorem PhiS_pos (c : Dev nD) (n : ℕ) (h : n ≤ cfg0.N) (hz : n ≠ 0) :
    PhiS m c n h = iprop(iprop(owns (c : Thread nD τ) scM fullShare (scr m c n h)) ∗ (∃ r, prngReg c r)) := by
  cases n with
  | zero => exact absurd rfl hz
  | succ n => rfl

/-! ## The pipeline's proof data -/

/-- The proof data: the arrays as the region finds them; each input's buffer at its block; the outputs' at the
    requantisation of the accumulator (consulted at the epilogue's points only); the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outScale (scrAt m c t) (iblk m c 1 t) (iblk m c 3 t)
    | ⟨5, _⟩ => outCodes (scrAt m c t) (iblk m c 1 t) (iblk m c 3 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outScale (scrAt m c t) (iblk m c 1 t) (iblk m c 3 t) := by dsimp only [dats]
theorem after0_5 (c : Dev nD) (t : Fin cfg0.N) : (dats m 0 c).after 5 t = outCodes (scrAt m c t) (iblk m c 1 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (st0_0 t) fullShare (iblk m c 0 t) := by
  rw [← after0_0 m c t]
theorem leaves1 (c : Dev nD) (t : Fin cfg0.N) : (dats m 0 c).leavesExact 1 t = owns (c : Thread nD τ) (st0_1 t) fullShare (iblk m c 1 t) := by
  rw [← after0_1 m c t]
theorem leaves2 (c : Dev nD) (t : Fin cfg0.N) : (dats m 0 c).leavesExact 2 t = owns (c : Thread nD τ) (st0_2 t) fullShare (iblk m c 2 t) := by
  rw [← after0_2 m c t]
theorem leaves3 (c : Dev nD) (t : Fin cfg0.N) : (dats m 0 c).leavesExact 3 t = owns (c : Thread nD τ) (st0_3 t) fullShare (iblk m c 3 t) := by
  rw [← after0_3 m c t]
theorem leaves4 (c : Dev nD) (t : Fin cfg0.N) (h : t.val % 27 = 26) : (dats m 0 c).leavesExact 4 t
    = owns (c : Thread nD τ) (st0_4 t) fullShare (outScale (scrAt m c t) (iblk m c 1 t) (iblk m c 3 t)) := by
  rw [← after0_4 m c t]; unfold Dat.leavesExact; rw [live4 t h]
theorem leaves5 (c : Dev nD) (t : Fin cfg0.N) (h : t.val % 27 = 26) : (dats m 0 c).leavesExact 5 t
    = owns (c : Thread nD τ) (st0_5 t) fullShare (outCodes (scrAt m c t) (iblk m c 1 t) (iblk m c 3 t)) := by
  rw [← after0_5 m c t]; unfold Dat.leavesExact; rw [live5 t h]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 243 := lt_of_lt_of_eq t.isLt (show cfg0.N = 243 from N_0)
  by_cases h : t.val % 27 = 26
  · rw [leaves4 m c t h, leaves5 m c t h, PhiS_castSucc m c t, PhiS_pos m c _ _ (by omega)]
    iintro ⟨⟨HS, Hg⟩, Ho, ⟨%d0, H0⟩, ⟨%d1, H1⟩, ⟨%d2, H2⟩, ⟨%d3, H3⟩, ⟨%d4, H4⟩, ⟨%d5, H5⟩⟩
    iapply (run_last c (grid0.coords t) _ _ _ _ _ _ _ _ _ _ _ _ _ _ ((hcond t).mpr h) (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dats m 0 c) 4 t (idle4 t h) (noFlush4 t h), Dat.leavesExact_idle (dats m 0 c) 5 t (idle5 t h) (noFlush5 t h)]
    by_cases hz : t.val = 0
    · rw [PhiS_castSucc m c t, PhiS_zero m c _ _ hz, PhiA0_eq]
      iintro ⟨⟨⟨%d, HS⟩, Hg⟩, Ho, ⟨%d0, H0⟩, ⟨%d1, H1⟩, ⟨%d2, H2⟩, ⟨%d3, H3⟩, H4, H5⟩
      rw [show scr m c (t.val + 1) t.isLt = accStep (grid0.coords t) (iblk m c 0 t) (iblk m c 2 t) d from scrAt_first m c t (by omega) d]
      iapply (run_acc c (grid0.coords t) _ _ _ _ _ _ _ _ _ _ _ _ _ _ (fun e => h ((hcond t).mp e)) (iblk m c 0 t) (iblk m c 2 t) d Set.univ _)
      isplitl [H0]; · iexact H0
      isplitl [H2]; · iexact H2
      isplitl [HS]; · iexact HS
      iintro ⟨H0, H2, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨HS, Hg⟩, Ho, ⟨%d0, H0⟩, ⟨%d1, H1⟩, ⟨%d2, H2⟩, ⟨%d3, H3⟩, H4, H5⟩
      iapply (run_acc c (grid0.coords t) _ _ _ _ _ _ _ _ _ _ _ _ _ _ (fun e => h ((hcond t).mp e)) (iblk m c 0 t) (iblk m c 2 t) _ Set.univ _)
      isplitl [H0]; · iexact H0
      isplitl [H2]; · iexact H2
      isplitl [HS]; · iexact HS
      iintro ⟨H0, H2, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 243 := N_0; omega), PhiA0_eq]
  iintro ⟨HS0, Hg⟩
  isplitl [HS0]
  · iexists _; iexact HS0
  iexact Hg

/-! ## The run and the frame -/

set_option backward.isDefEq.respectTransparency.types false in
set_option maxHeartbeats 800000 in
/-- The launch: every weakly fair execution ends, with every array of the pipeline at what the proof data computes, every
    other buffer as the lines after the region leave it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME CLAIM, at any values: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Run

end
-- ==== Proof.PI.Point.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One grid point of the kernel

What one grid point leaves in the accumulator (`accStep`), in the scales (`outScale`) and in the codes (`outCodes`), as closed
functions of the blocks it reads, and the two runs of the body: a step that only accumulates and the last step of a row block. -/

/-- One 512×512 chunk of the accumulation: the old chunk (zero at the first step of the contraction) plus the product of 512 rows of
    the left block with 512 columns of the right block. -/
def chunk (j : BitVec 32) (x : Vec F S512x1024 .fp8e4m3) (w : Vec F S1024x512 .fp8e4m3) (a : Vec F S512x512 .f32) : FVec F S512x512 .f32 :=
  shapeCast S512x512 (addf (Scalar.select (Scalar.cmpi .sgt j 0#32) a (broadcast S512x512 (Scalar.ofBits .f32 0x00000000#32)) : Vec F S512x512 .f32)
    (matmul dot_S512x1024_S1024x512_S512x512_1_0_0_1_n_n none (shapeCast S512x1024 x shapeCasts_S512x1024_S512x1024) w (constant S512x512 .f32 0x00000000#32)))
    shapeCasts_S512x512_S512x512

/-- The store of the chunk at row `r`, column `q`. -/
def piece (i : grid0.Coords) (x0 : Vec F S1024x1024 .fp8e4m3) (x2 : Vec F S1024x5120 .fp8e4m3) (xs : Vec F S1024x5120 .f32) {r q : ℕ}
    (hx : ∀ a, (![r, 0] : Fin 2 → Nat) a + S512x1024.size a ≤ S1024x1024.size a) (hw : ∀ a, (![0, q] : Fin 2 → Nat) a + S1024x512.size a ≤ S1024x5120.size a)
    (ha : ∀ a, (![r, q] : Fin 2 → Nat) a + S512x512.size a ≤ S1024x5120.size a) : View.Piece (Elt F) S1024x5120 .f32 :=
  ⟨Rect.unit ![r, q] S512x512.size ha,
    chunk (BitVec.ofNat 32 (i 1).val) (View.ld x0 (Rect.unit ![r, 0] S512x1024.size hx)) (View.ld x2 (Rect.unit ![0, q] S1024x512.size hw))
      (View.ld xs (Rect.unit ![r, q] S512x512.size ha))⟩

/-- The twenty chunk stores of one grid point, the last first. -/
def accPieces (i : grid0.Coords) (x0 : Vec F S1024x1024 .fp8e4m3) (x2 : Vec F S1024x5120 .fp8e4m3) (xs : Vec F S1024x5120 .f32) :
    List (View.Piece (Elt F) S1024x5120 .f32) :=
  [piece i x0 x2 xs inb_S1024x1024_S512x1024_512_0 inb_S1024x5120_S1024x512_0_4608 inb_S1024x5120_S512x512_512_4608,
    piece i x0 x2 xs inb_S1024x1024_S512x1024_512_0 inb_S1024x5120_S1024x512_0_4096 inb_S1024x5120_S512x512_512_4096,
    piece i x0 x2 xs inb_S1024x1024_S512x1024_512_0 inb_S1024x5120_S1024x512_0_3584 inb_S1024x5120_S512x512_512_3584,
    piece i x0 x2 xs inb_S1024x1024_S512x1024_512_0 inb_S1024x5120_S1024x512_0_3072 inb_S1024x5120_S512x512_512_3072,
    piece i x0 x2 xs inb_S1024x1024_S512x1024_512_0 inb_S1024x5120_S1024x512_0_2560 inb_S1024x5120_S512x512_512_2560,
    piece i x0 x2 xs inb_S1024x1024_S512x1024_512_0 inb_S1024x5120_S1024x512_0_2048 inb_S1024x5120_S512x512_512_2048,
    piece i x0 x2 xs inb_S1024x1024_S512x1024_512_0 inb_S1024x5120_S1024x512_0_1536 inb_S1024x5120_S512x512_512_1536,
    piece i x0 x2 xs inb_S1024x1024_S512x1024_512_0 inb_S1024x5120_S1024x512_0_1024 inb_S1024x5120_S512x512_512_1024,
    piece i x0 x2 xs inb_S1024x1024_S512x1024_512_0 inb_S1024x5120_S1024x512_0_512 inb_S1024x5120_S512x512_512_512,
    piece i x0 x2 xs inb_S1024x1024_S512x1024_512_0 inb_S1024x5120_S1024x512_0_0 inb_S1024x5120_S512x512_512_0,
    piece i x0 x2 xs inb_S1024x1024_S512x1024_0_0 inb_S1024x5120_S1024x512_0_4608 inb_S1024x5120_S512x512_0_4608,
    piece i x0 x2 xs inb_S1024x1024_S512x1024_0_0 inb_S1024x5120_S1024x512_0_4096 inb_S1024x5120_S512x512_0_4096,
    piece i x0 x2 xs inb_S1024x1024_S512x1024_0_0 inb_S1024x5120_S1024x512_0_3584 inb_S1024x5120_S512x512_0_3584,
    piece i x0 x2 xs inb_S1024x1024_S512x1024_0_0 inb_S1024x5120_S1024x512_0_3072 inb_S1024x5120_S512x512_0_3072,
    piece i x0 x2 xs inb_S1024x1024_S512x1024_0_0 inb_S1024x5120_S1024x512_0_2560 inb_S1024x5120_S512x512_0_2560,
    piece i x0 x2 xs inb_S1024x1024_S512x1024_0_0 inb_S1024x5120_S1024x512_0_2048 inb_S1024x5120_S512x512_0_2048,
    piece i x0 x2 xs inb_S1024x1024_S512x1024_0_0 inb_S1024x5120_S1024x512_0_1536 inb_S1024x5120_S512x512_0_1536,
    piece i x0 x2 xs inb_S1024x1024_S512x1024_0_0 inb_S1024x5120_S1024x512_0_1024 inb_S1024x5120_S512x512_0_1024,
    piece i x0 x2 xs inb_S1024x1024_S512x1024_0_0 inb_S1024x5120_S1024x512_0_512 inb_S1024x5120_S512x512_0_512,
    piece i x0 x2 xs inb_S1024x1024_S512x1024_0_0 inb_S1024x5120_S1024x512_0_0 inb_S1024x5120_S512x512_0_0]

/-- The chunks cover the accumulator. -/
theorem accPieces_cover (i : grid0.Coords) (x0 : Vec F S1024x1024 .fp8e4m3) (x2 : Vec F S1024x5120 .fp8e4m3) (xs : Vec F S1024x5120 .f32)
    (y : S1024x5120.Idx) : ∃ p ∈ accPieces i x0 x2 xs, y ∈ p.1.set :=
  View.cover_of_tiledL (accPieces i x0 x2 xs) S512x512.size (by sl_kernel_rfl) y

/-- The accumulator after one grid point that found `xs` in it. -/
def accStep (i : grid0.Coords) (x0 : Vec F S1024x1024 .fp8e4m3) (x2 : Vec F S1024x5120 .fp8e4m3) (xs : Vec F S1024x5120 .f32) : Vec F S1024x5120 .f32 :=
  View.canon (accPieces i x0 x2 xs)

/-- At the first step of the contraction what the accumulator held before does not matter. -/
theorem accStep_first (i : grid0.Coords) (x0 : Vec F S1024x1024 .fp8e4m3) (x2 : Vec F S1024x5120 .fp8e4m3) (xs xs' : Vec F S1024x5120 .f32)
    (h : (i 1).val = 0) : accStep i x0 x2 xs = accStep i x0 x2 xs' := by
  have hp : ∀ {r q : ℕ} (hx : ∀ a, (![r, 0] : Fin 2 → Nat) a + S512x1024.size a ≤ S1024x1024.size a) (hw : ∀ a, (![0, q] : Fin 2 → Nat) a + S1024x512.size a ≤ S1024x5120.size a)
      (ha : ∀ a, (![r, q] : Fin 2 → Nat) a + S512x512.size a ≤ S1024x5120.size a), piece i x0 x2 xs hx hw ha = piece i x0 x2 xs' hx hw ha := by
    intro r q hx hw ha
    unfold piece chunk
    rw [h]; rfl
  unfold accStep accPieces
  rw [hp inb_S1024x1024_S512x1024_512_0 inb_S1024x5120_S1024x512_0_4608 inb_S1024x5120_S512x512_512_4608, hp inb_S1024x1024_S512x1024_512_0 inb_S1024x5120_S1024x512_0_4096 inb_S1024x5120_S512x512_512_4096, hp inb_S1024x1024_S512x1024_512_0 inb_S1024x5120_S1024x512_0_3584 inb_S1024x5120_S512x512_512_3584, hp inb_S1024x1024_S512x1024_512_0 inb_S1024x5120_S1024x512_0_3072 inb_S1024x5120_S512x512_512_3072, hp inb_S1024x1024_S512x1024_512_0 inb_S1024x5120_S1024x512_0_2560 inb_S1024x5120_S512x512_512_2560, hp inb_S1024x1024_S512x1024_512_0 inb_S1024x5120_S1024x512_0_2048 inb_S1024x5120_S512x512_512_2048, hp inb_S1024x1024_S512x1024_512_0 inb_S1024x5120_S1024x512_0_1536 inb_S1024x5120_S512x512_512_1536, hp inb_S1024x1024_S512x1024_512_0 inb_S1024x5120_S1024x512_0_1024 inb_S1024x5120_S512x512_512_1024, hp inb_S1024x1024_S512x1024_512_0 inb_S1024x5120_S1024x512_0_512 inb_S1024x5120_S512x512_512_512, hp inb_S1024x1024_S512x1024_512_0 inb_S1024x5120_S1024x512_0_0 inb_S1024x5120_S512x512_512_0, hp inb_S1024x1024_S512x1024_0_0 inb_S1024x5120_S1024x512_0_4608 inb_S1024x5120_S512x512_0_4608, hp inb_S1024x1024_S512x1024_0_0 inb_S1024x5120_S1024x512_0_4096 inb_S1024x5120_S512x512_0_4096, hp inb_S1024x1024_S512x1024_0_0 inb_S1024x5120_S1024x512_0_3584 inb_S1024x5120_S512x512_0_3584, hp inb_S1024x1024_S512x1024_0_0 inb_S1024x5120_S1024x512_0_3072 inb_S1024x5120_S512x512_0_3072, hp inb_S1024x1024_S512x1024_0_0 inb_S1024x5120_S1024x512_0_2560 inb_S1024x5120_S512x512_0_2560, hp inb_S1024x1024_S512x1024_0_0 inb_S1024x5120_S1024x512_0_2048 inb_S1024x5120_S512x512_0_2048, hp inb_S1024x1024_S512x1024_0_0 inb_S1024x5120_S1024x512_0_1536 inb_S1024x5120_S512x512_0_1536, hp inb_S1024x1024_S512x1024_0_0 inb_S1024x5120_S1024x512_0_1024 inb_S1024x5120_S512x512_0_1024, hp inb_S1024x1024_S512x1024_0_0 inb_S1024x5120_S1024x512_0_512 inb_S1024x5120_S512x512_0_512, hp inb_S1024x1024_S512x1024_0_0 inb_S1024x5120_S1024x512_0_0 inb_S1024x5120_S512x512_0_0]

/-- One trip's scales: 32 rows of the accumulator `a`, their row scales `s`, the column scales `w`. -/
def tripScale (a : Vec F S32x5120 .f32) (s : Vec F S32x1 .f32) (w : Vec F S1x5120 .f32) : FVec F S32x1 .f32 :=
  k0_pay12 (k0_pay3 a s w) (k0_pay8 (k0_pay4 a s w) (k0_pay5 a s w) (k0_pay6 a s w) k0_pay7) (k0_pay9 (k0_pay4 a s w) (k0_pay5 a s w) (k0_pay6 a s w) k0_pay7) k0_pay10

/-- One trip's codes. -/
def tripCodes (a : Vec F S32x5120 .f32) (s : Vec F S32x1 .f32) (w : Vec F S1x5120 .f32) : FVec F S32x5120 .fp8e4m3 :=
  k0_pay13 (k0_pay2 a s w) (k0_pay3 a s w) (k0_pay8 (k0_pay4 a s w) (k0_pay5 a s w) (k0_pay6 a s w) k0_pay7)
    (k0_pay9 (k0_pay4 a s w) (k0_pay5 a s w) (k0_pay6 a s w) k0_pay7) k0_pay10

/-- 32 rows from row `32 b` of a 1024-row block lie inside it. -/
theorem rows_inb (b : Fin 32) : ∀ a, (![32 * b.val, 0] : Fin 2 → Nat) a + S32x5120.size a ≤ S1024x5120.size a :=
  Fin.forall_fin_two.mpr ⟨by have := b.isLt; show 32 * b.val + 32 ≤ 1024; omega, by show 0 + 5120 ≤ 5120; omega⟩
theorem rows1_inb (b : Fin 32) : ∀ a, (![32 * b.val, 0] : Fin 2 → Nat) a + S32x1.size a ≤ S1024x1.size a :=
  Fin.forall_fin_two.mpr ⟨by have := b.isLt; show 32 * b.val + 32 ≤ 1024; omega, by show 0 + 1 ≤ 1; omega⟩

/-- Rows `32 b` to `32 b + 31`. -/
abbrev rowsR (b : Fin 32) : Rect S1024x5120 := Rect.unit ![32 * b.val, 0] S32x5120.size (rows_inb b)
abbrev rows1R (b : Fin 32) : Rect S1024x1 := Rect.unit ![32 * b.val, 0] S32x1.size (rows1_inb b)

/-- The group of 32 rows that a row lies in. -/
abbrev grp (n : ℕ) (h : n < 1024) : Fin 32 := ⟨n / 32, by omega⟩

/-- The scales of a row block whose accumulator ended at `acc`. -/
def outScale (acc : Vec F S1024x5120 .f32) (x1 : Vec F S1024x1 .f32) (x3 : Vec F S1x5120 .f32) : Vec F S1024x1 .f32 := fun y =>
  tripScale (View.ld acc (rowsR (grp (y 0).val (y 0).isLt))) (View.ld x1 (rows1R (grp (y 0).val (y 0).isLt))) x3
    (Fin.cons ⟨(y 0).val % 32, Nat.mod_lt _ (by decide)⟩ (Fin.cons (y 1) (fun a => a.elim0)))

/-- The codes of a row block whose accumulator ended at `acc`. -/
def outCodes (acc : Vec F S1024x5120 .f32) (x1 : Vec F S1024x1 .f32) (x3 : Vec F S1x5120 .f32) : Vec F S1024x5120 .fp8e4m3 := fun y =>
  tripCodes (View.ld acc (rowsR (grp (y 0).val (y 0).isLt))) (View.ld x1 (rows1R (grp (y 0).val (y 0).isLt))) x3
    (Fin.cons ⟨(y 0).val % 32, Nat.mod_lt _ (by decide)⟩ (Fin.cons (y 1) (fun a => a.elim0)))

theorem outScale_emb (acc : Vec F S1024x5120 .f32) (x1 : Vec F S1024x1 .f32) (x3 : Vec F S1x5120 .f32) (b : Fin 32) (x : (rows1R b).shape.Idx) :
    tripScale (View.ld acc (rowsR b)) (View.ld x1 (rows1R b)) x3 x = outScale acc x1 x3 ((rows1R b).emb x) := by
  have h0 : (((rows1R b).emb x) 0).val = 32 * b.val + 1 * (x 0).val := rfl
  have hx : (x 0).val < 32 := (x 0).isLt
  have hb : grp (((rows1R b).emb x) 0).val (((rows1R b).emb x) 0).isLt = b := Fin.ext (by show _ / 32 = _; rw [h0]; omega)
  unfold outScale
  rw [hb]
  refine congrArg _ (funext fun a => Fin.ext ?_)
  revert a
  exact Fin.forall_fin_two.mpr ⟨by show (x 0).val = (((rows1R b).emb x) 0).val % 32; rw [h0]; omega, by
    show (x 1).val = 0 + 1 * (x 1).val; omega⟩

theorem outCodes_emb (acc : Vec F S1024x5120 .f32) (x1 : Vec F S1024x1 .f32) (x3 : Vec F S1x5120 .f32) (b : Fin 32) (x : (rowsR b).shape.Idx) :
    tripCodes (View.ld acc (rowsR b)) (View.ld x1 (rows1R b)) x3 x = outCodes acc x1 x3 ((rowsR b).emb x) := by
  have h0 : (((rowsR b).emb x) 0).val = 32 * b.val + 1 * (x 0).val := rfl
  have hx : (x 0).val < 32 := (x 0).isLt
  have hb : grp (((rowsR b).emb x) 0).val (((rowsR b).emb x) 0).isLt = b := Fin.ext (by show _ / 32 = _; rw [h0]; omega)
  unfold outCodes
  rw [hb]
  refine congrArg _ (funext fun a => Fin.ext ?_)
  revert a
  exact Fin.forall_fin_two.mpr ⟨by show (x 0).val = (((rowsR b).emb x) 0).val % 32; rw [h0]; omega, by
    show (x 1).val = 0 + 1 * (x 1).val; omega⟩

/-! ## The loop's stores -/

section Loop

variable (c : Dev nD) (i : grid0.Coords) (arg2 : Memref sig .tc .vmem S1024x1024 .fp8e4m3) (harg2 : arg2.IsWhole) (arg3 : Memref sig .tc .vmem S1024x1 .f32) (harg3 : arg3.IsWhole) (arg4 : Memref sig .tc .vmem S1024x5120 .fp8e4m3) (harg4 : arg4.IsWhole) (arg5 : Memref sig .tc .vmem S1x5120 .f32) (harg5 : arg5.IsWhole) (arg6 : Memref sig .tc .vmem S1024x1 .f32) (harg6 : arg6.IsWhole) (arg7 : Memref sig .tc .vmem S1024x5120 .fp8e4m3) (harg7 : arg7.IsWhole) (arg8 : Memref sig .tc .vmem S1024x5120 .f32) (harg8 : arg8.IsWhole) (k0_h1 : k0_cond1 i = 1#1)
  (X3 : BufTy.Contents (Elt F) arg3.view.ty) (X5 : BufTy.Contents (Elt F) arg5.view.ty) (X8 : BufTy.Contents (Elt F) arg8.view.ty)

theorem trips_eq : k0_t1_loop.trips = 32 := by decide +kernel

/-- What one trip stores: 32 scales and 32 rows of codes. -/
theorem trip_pieces (k : Fin k0_t1_loop.trips) :
    tripL_k0_t1 (F := F) Variants.none c none i arg2 harg2 arg3 harg3 arg4 harg4 arg5 harg5 arg6 harg6 arg7 harg7 arg8 harg8 k0_h1 X3 X5 X8 k
      = ([⟨Rect.unit (k0_off2 k) S32x1.size (k0_off2_inb i k k0_h1),
            tripScale (View.ld (arg8.view.read (Elt F) X8) (Rect.unit (k0_off1 k) S32x5120.size (k0_off1_inb i k k0_h1)))
              (View.ld (arg3.view.read (Elt F) X3) (Rect.unit (k0_off2 k) S32x1.size (k0_off2_inb i k k0_h1)))
              (View.ld (arg5.view.read (Elt F) X5) (Rect.unit ![0, 0] S1x5120.size inb_S1x5120_S1x5120_0_0))⟩],
         [⟨Rect.unit (k0_off1 k) S32x5120.size (k0_off1_inb i k k0_h1),
            tripCodes (View.ld (arg8.view.read (Elt F) X8) (Rect.unit (k0_off1 k) S32x5120.size (k0_off1_inb i k k0_h1)))
              (View.ld (arg3.view.read (Elt F) X3) (Rect.unit (k0_off2 k) S32x1.size (k0_off2_inb i k k0_h1)))
              (View.ld (arg5.view.read (Elt F) X5) (Rect.unit ![0, 0] S1x5120.size inb_S1x5120_S1x5120_0_0))⟩]) := by
  unfold tripL_k0_t1 trip_k0_t1
  rfl

end Loop
end Cert.KernelIdeal.Run
end
-- ==== Proof.PI.Run.lean ====
module

public import proofs.«01_k».proof.Proof.PI.Point

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store of 32 scales, its offsets told in closed form, is a store of rows of `outScale`; -/
theorem scale_piece_eq (b : Fin 32) (acc : Vec F S1024x5120 .f32) (x1 : Vec F S1024x1 .f32) (x3 : Vec F S1x5120 .f32) (o1 o2 : Fin 2 → Nat)
    (h1 : o1 = ![32 * b.val, 0]) (h2 : o2 = ![32 * b.val, 0]) (i1 : ∀ a, o1 a + S32x5120.size a ≤ S1024x5120.size a) (i2 : ∀ a, o2 a + S32x1.size a ≤ S1024x1.size a) :
    (⟨Rect.unit o2 S32x1.size i2, tripScale (View.ld acc (Rect.unit o1 S32x5120.size i1)) (View.ld x1 (Rect.unit o2 S32x1.size i2)) x3⟩ : View.Piece (Elt F) S1024x1 .f32)
      = ⟨rows1R b, fun x => outScale acc x1 x3 ((rows1R b).emb x)⟩ := by
  subst h1; subst h2
  exact congrArg (fun w => (⟨rows1R b, w⟩ : View.Piece (Elt F) S1024x1 .f32)) (funext fun x => outScale_emb acc x1 x3 b x)

/-- and a store of 32 rows of codes one of rows of `outCodes`. -/
theorem codes_piece_eq (b : Fin 32) (acc : Vec F S1024x5120 .f32) (x1 : Vec F S1024x1 .f32) (x3 : Vec F S1x5120 .f32) (o1 o2 : Fin 2 → Nat)
    (h1 : o1 = ![32 * b.val, 0]) (h2 : o2 = ![32 * b.val, 0]) (i1 : ∀ a, o1 a + S32x5120.size a ≤ S1024x5120.size a) (i2 : ∀ a, o2 a + S32x1.size a ≤ S1024x1.size a) :
    (⟨Rect.unit o1 S32x5120.size i1, tripCodes (View.ld acc (Rect.unit o1 S32x5120.size i1)) (View.ld x1 (Rect.unit o2 S32x1.size i2)) x3⟩ : View.Piece (Elt F) S1024x5120 .fp8e4m3)
      = ⟨rowsR b, fun x => outCodes acc x1 x3 ((rowsR b).emb x)⟩ := by
  subst h1; subst h2
  exact congrArg (fun w => (⟨rowsR b, w⟩ : View.Piece (Elt F) S1024x5120 .fp8e4m3)) (funext fun x => outCodes_emb acc x1 x3 b x)

section Loop

variable (c : Dev nD) (i : grid0.Coords) (arg2 : Memref sig .tc .vmem S1024x1024 .fp8e4m3) (harg2 : arg2.IsWhole) (arg3 : Memref sig .tc .vmem S1024x1 .f32) (harg3 : arg3.IsWhole) (arg4 : Memref sig .tc .vmem S1024x5120 .fp8e4m3) (harg4 : arg4.IsWhole) (arg5 : Memref sig .tc .vmem S1x5120 .f32) (harg5 : arg5.IsWhole) (arg6 : Memref sig .tc .vmem S1024x1 .f32) (harg6 : arg6.IsWhole) (arg7 : Memref sig .tc .vmem S1024x5120 .fp8e4m3) (harg7 : arg7.IsWhole) (arg8 : Memref sig .tc .vmem S1024x5120 .f32) (harg8 : arg8.IsWhole) (k0_h1 : k0_cond1 i = 1#1)
  (X3 : BufTy.Contents (Elt F) arg3.view.ty) (X5 : BufTy.Contents (Elt F) arg5.view.ty) (X8 : BufTy.Contents (Elt F) arg8.view.ty)

/-- The stores of trip `k` are rows of `outScale` and of `outCodes`. -/
theorem trip_pieces' (k : Fin k0_t1_loop.trips) :
    tripL_k0_t1 (F := F) Variants.none c none i arg2 harg2 arg3 harg3 arg4 harg4 arg5 harg5 arg6 harg6 arg7 harg7 arg8 harg8 k0_h1 X3 X5 X8 k
      = ([⟨rows1R (k.cast trips_eq), fun x => outScale (arg8.view.read (Elt F) X8) (arg3.view.read (Elt F) X3) (arg5.view.read (Elt F) X5) ((rows1R (k.cast trips_eq)).emb x)⟩],
         [⟨rowsR (k.cast trips_eq), fun x => outCodes (arg8.view.read (Elt F) X8) (arg3.view.read (Elt F) X3) (arg5.view.read (Elt F) X5) ((rowsR (k.cast trips_eq)).emb x)⟩]) := by
  rw [trip_pieces, View.ld_unit_zero (by funext a; revert a; exact Fin.forall_fin_two.mpr ⟨rfl, rfl⟩)]
  exact Prod.ext (congrArg (fun p => [p]) (scale_piece_eq (k.cast trips_eq) _ _ _ _ _ (k0_off1_eq k) (k0_off2_eq k) _ _))
    (congrArg (fun p => [p]) (codes_piece_eq (k.cast trips_eq) _ _ _ _ _ (k0_off1_eq k) (k0_off2_eq k) _ _))

/-- The stores of the trips before `n` are rows of `outScale` and `outCodes`, and every trip before `n` has its stores among them. -/
theorem pb_pieces (n : ℕ) (hn : n ≤ k0_t1_loop.trips) :
    (pb_k0_t1 (F := F) Variants.none c none i arg2 harg2 arg3 harg3 arg4 harg4 arg5 harg5 arg6 harg6 arg7 harg7 arg8 harg8 k0_h1 X3 X5 X8 n)
      = ((List.ofFn fun k : Fin n => (⟨rows1R ((k.castLE hn).cast trips_eq), fun x => outScale (arg8.view.read (Elt F) X8) (arg3.view.read (Elt F) X3) (arg5.view.read (Elt F) X5) ((rows1R ((k.castLE hn).cast trips_eq)).emb x)⟩ : View.Piece (Elt F) S1024x1 .f32)).reverse,
         (List.ofFn fun k : Fin n => (⟨rowsR ((k.castLE hn).cast trips_eq), fun x => outCodes (arg8.view.read (Elt F) X8) (arg3.view.read (Elt F) X3) (arg5.view.read (Elt F) X5) ((rowsR ((k.castLE hn).cast trips_eq)).emb x)⟩ : View.Piece (Elt F) S1024x5120 .fp8e4m3)).reverse) := by
  induction n with
  | zero => rfl
  | succ n ih =>
    have h := pb_k0_t1_succ (F := F) Variants.none c none i arg2 harg2 arg3 harg3 arg4 harg4 arg5 harg5 arg6 harg6 arg7 harg7 arg8 harg8 k0_h1 X3 X5 X8 ⟨n, hn⟩
    refine h.trans ?_
    rw [trip_pieces']
    have ih' := ih (Nat.le_of_succ_le hn)
    rw [show (⟨n, hn⟩ : Fin k0_t1_loop.trips).val = n from rfl, ih', List.ofFn_succ_last, List.ofFn_succ_last, List.reverse_append, List.reverse_append]
    rfl

/-- After the loop the scale buffer holds `outScale` of the accumulator, -/
theorem read_scale {sp : Space} (v : View sig .tc sp S1024x1 .f32) (f : v.ty.Contents (Elt F)) :
    v.read (Elt F) (v.writes (Elt F) f (pb_k0_t1 (F := F) Variants.none c none i arg2 harg2 arg3 harg3 arg4 harg4 arg5 harg5 arg6 harg6 arg7 harg7 arg8 harg8 k0_h1 X3 X5 X8 k0_t1_loop.trips).1)
      = outScale (arg8.view.read (Elt F) X8) (arg3.view.read (Elt F) X3) (arg5.view.read (Elt F) X5) := by
  rw [pb_pieces c i arg2 harg2 arg3 harg3 arg4 harg4 arg5 harg5 arg6 harg6 arg7 harg7 arg8 harg8 k0_h1 X3 X5 X8 _ (Nat.le_refl _)]
  funext y
  refine View.read_writes_apply_of_pieces v f _ _ ?_ y ?_
  · intro p hp x
    rw [List.mem_reverse, List.mem_ofFn] at hp
    obtain ⟨k, rfl⟩ := hp
    rfl
  · have hy : (y 0).val < 1024 := (y 0).isLt
    have hk : (y 0).val / 32 < k0_t1_loop.trips := by rw [trips_eq]; omega
    refine ⟨_, List.mem_reverse.mpr (List.mem_ofFn.mpr ⟨⟨(y 0).val / 32, hk⟩, rfl⟩), ?_⟩
    refine (Rect.mem_set_unit (inb := rows1_inb ⟨(y 0).val / 32, by omega⟩)).mpr ?_
    exact Fin.forall_fin_two.mpr ⟨by show 32 * ((y 0).val / 32) ≤ (y 0).val ∧ (y 0).val < 32 * ((y 0).val / 32) + 32; omega, by
      have := (y 1).isLt; show 0 ≤ (y 1).val ∧ (y 1).val < 0 + 1; exact ⟨by omega, by simpa using this⟩⟩

/-- and the code buffer `outCodes` of it. -/
theorem read_codes {sp : Space} (v : View sig .tc sp S1024x5120 .fp8e4m3) (f : v.ty.Contents (Elt F)) :
    v.read (Elt F) (v.writes (Elt F) f (pb_k0_t1 (F := F) Variants.none c none i arg2 harg2 arg3 harg3 arg4 harg4 arg5 harg5 arg6 harg6 arg7 harg7 arg8 harg8 k0_h1 X3 X5 X8 k0_t1_loop.trips).2)
      = outCodes (arg8.view.read (Elt F) X8) (arg3.view.read (Elt F) X3) (arg5.view.read (Elt F) X5) := by
  rw [pb_pieces c i arg2 harg2 arg3 harg3 arg4 harg4 arg5 harg5 arg6 harg6 arg7 harg7 arg8 harg8 k0_h1 X3 X5 X8 _ (Nat.le_refl _)]
  funext y
  refine View.read_writes_apply_of_pieces v f _ _ ?_ y ?_
  · intro p hp x
    rw [List.mem_reverse, List.mem_ofFn] at hp
    obtain ⟨k, rfl⟩ := hp
    rfl
  · have hy : (y 0).val < 1024 := (y 0).isLt
    have hk : (y 0).val / 32 < k0_t1_loop.trips := by rw [trips_eq]; omega
    refine ⟨_, List.mem_reverse.mpr (List.mem_ofFn.mpr ⟨⟨(y 0).val / 32, hk⟩, rfl⟩), ?_⟩
    refine (Rect.mem_set_unit (inb := rows_inb ⟨(y 0).val / 32, by omega⟩)).mpr ?_
    exact Fin.forall_fin_two.mpr ⟨by show 32 * ((y 0).val / 32) ≤ (y 0).val ∧ (y 0).val < 32 * ((y 0).val / 32) + 32; omega, by
      have := (y 1).isLt; show 0 ≤ (y 1).val ∧ (y 1).val < 0 + 5120; exact ⟨by omega, by simpa using this⟩⟩

end Loop

/-! ## The two runs of the body -/

section Runs

variable (c : Dev nD) (i : grid0.Coords) (arg2 : Memref sig .tc .vmem S1024x1024 .fp8e4m3) (harg2 : arg2.IsWhole) (arg3 : Memref sig .tc .vmem S1024x1 .f32) (harg3 : arg3.IsWhole) (arg4 : Memref sig .tc .vmem S1024x5120 .fp8e4m3) (harg4 : arg4.IsWhole) (arg5 : Memref sig .tc .vmem S1x5120 .f32) (harg5 : arg5.IsWhole) (arg6 : Memref sig .tc .vmem S1024x1 .f32) (harg6 : arg6.IsWhole) (arg7 : Memref sig .tc .vmem S1024x5120 .fp8e4m3) (harg7 : arg7.IsWhole) (arg8 : Memref sig .tc .vmem S1024x5120 .f32) (harg8 : arg8.IsWhole)

/-- The accumulator's contents after the twenty stores are `accStep`. -/
theorem read_acc (x0 : Vec F S1024x1024 .fp8e4m3) (x2 : Vec F S1024x5120 .fp8e4m3) (xs : Vec F S1024x5120 .f32) {sp : Space}
    (v : View sig .tc sp S1024x5120 .f32) (f : v.ty.Contents (Elt F)) :
    v.read (Elt F) (v.writes (Elt F) f (accPieces i x0 x2 xs)) = accStep i x0 x2 xs :=
  View.read_writes_eq_canon v f _ (accPieces_cover i x0 x2 xs)

set_option maxHeartbeats 1000000 in
/-- A grid point that is not the last of its row block: it only accumulates. -/
theorem run_acc (hc1 : ¬k0_cond1 i = 1#1) (x0 : Vec F S1024x1024 .fp8e4m3) (x2 : Vec F S1024x5120 .fp8e4m3) (xs : Vec F S1024x5120 .f32)
    (E : Set ℕ) (K : PUnit → sProp 𝕄) :
    iprop(owns (c : Thread nD τ) arg2 fullShare x0 ∗ owns (c : Thread nD τ) arg4 fullShare x2 ∗ owns (c : Thread nD τ) arg8 fullShare xs
        ∗ (iprop(owns (c : Thread nD τ) arg2 fullShare x0 ∗ owns (c : Thread nD τ) arg4 fullShare x2 ∗ owns (c : Thread nD τ) arg8 fullShare (accStep i x0 x2 xs)) -∗ K ⟨⟩))
      ⊢ wp frame (wpE (defs₀ (F := F)) Variants.none c none) E (cc0_fp8_linear_requant i arg2 harg2 arg3 harg3 arg4 harg4 arg5 harg5 arg6 harg6 arg7 harg7 arg8 harg8) K := by
  simp only [cc0_fp8_linear_requant_eq_skeleton]; unfold cc0_fp8_linear_requant_skel
  simp only [k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f2, %hf2, H2⟩, ⟨%fs, %hfs, HS⟩, Hk⟩
  subst hf0; subst hf2; subst hfs
  sl_exec (disch := first | sl_exact hc1)
  sl_step
  iapply Hk
  isplitl [H0]
  · iexists _; isplitr; · ipureintro; rfl
    iexact H0
  isplitl [H2]
  · iexists _; isplitr; · ipureintro; rfl
    iexact H2
  iexists _; isplitr; swap; · iexact HS
  ipureintro
  exact read_acc i (arg2.view.read (Elt F) f0) (arg4.view.read (Elt F) f2) (arg8.view.read (Elt F) fs) arg8.view fs

set_option maxHeartbeats 1000000 in
/-- The last grid point of a row block: it accumulates and requantises the accumulator. -/
theorem run_last (hc1 : k0_cond1 i = 1#1) (x0 : Vec F S1024x1024 .fp8e4m3) (x1 : Vec F S1024x1 .f32) (x2 : Vec F S1024x5120 .fp8e4m3) (x3 : Vec F S1x5120 .f32)
    (xs : Vec F S1024x5120 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (outScale (accStep i x0 x2 xs) x1 x3) ∗ owns (c : Thread nD τ) arg7 fullShare (outCodes (accStep i x0 x2 xs) x1 x3)
            ∗ owns (c : Thread nD τ) arg8 fullShare (accStep i x0 x2 xs)) -∗ K ⟨⟩))
      ⊢ wp frame (wpE (defs₀ (F := F)) Variants.none c none) E (cc0_fp8_linear_requant i arg2 harg2 arg3 harg3 arg4 harg4 arg5 harg5 arg6 harg6 arg7 harg7 arg8 harg8) K := by
  simp only [cc0_fp8_linear_requant_eq_skeleton]; unfold cc0_fp8_linear_requant_skel
  simp only [k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%d6, ⟨%f6, %hf6, H6⟩⟩, ⟨%d7, ⟨%f7, %hf7, H7⟩⟩, ⟨%fs, %hfs, HS⟩, Hk⟩
  subst hf0; subst hf1; subst hf2; subst hf3; subst hfs
  sl_exec (disch := first | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H6]
  · iexists _; isplitr; swap; · iexact H6
    ipureintro
    refine (read_scale c i arg2 harg2 arg3 harg3 arg4 harg4 arg5 harg5 arg6 harg6 arg7 harg7 arg8 harg8 hc1 f1 f3 _ arg6.view f6).trans ?_
    exact congrArg (fun X => outScale X _ _) (read_acc i (arg2.view.read (Elt F) f0) (arg4.view.read (Elt F) f2) (arg8.view.read (Elt F) fs) arg8.view _)
  isplitl [H7]
  · iexists _; isplitr; swap; · iexact H7
    ipureintro
    refine (read_codes c i arg2 harg2 arg3 harg3 arg4 harg4 arg5 harg5 arg6 harg6 arg7 harg7 arg8 harg8 hc1 f1 f3 _ arg7.view f7).trans ?_
    exact congrArg (fun X => outCodes X _ _) (read_acc i (arg2.view.read (Elt F) f0) (arg4.view.read (Elt F) f2) (arg8.view.read (Elt F) fs) arg8.view _)
  iexists _; isplitr; swap; · iexact HS
  ipureintro
  exact read_acc i (arg2.view.read (Elt F) f0) (arg4.view.read (Elt F) f2) (arg8.view.read (Elt F) fs) arg8.view _

end Runs
end Cert.KernelIdeal.Run
end
-- ==== Proof.PI.Frame.lean ====
/- The kernel's run: the pipeline's proof data from the body's two triples (Run.lean), the body obligation at every grid
   point, the launch, and the frame claim. -/
module

public import proofs.«01_k».proof.Proof.PI.Run
public import proofs.«01_k».proof.Proof.Gen.KernelIdeal.Frame
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The epilogue runs exactly at the last point of each row block: the points ≡ 26 (mod 27). -/
theorem hcond : ∀ t : Fin cfg0.N, k0_cond1 (grid0.coords t) = 1#1 ↔ t.val % 27 = 26 :=
  (fun t => by
    have ht : t.val < 243 := Nat.lt_of_lt_of_eq t.isLt N_0
    have e0 : (grid0.coords t 0).val = t.val / 27 % 9 := Pipeline.Grid.coords_val t 0 (by decide) rfl
    have e1 : (grid0.coords t 1).val = t.val / 1 % 27 := Pipeline.Grid.coords_val t 1 (by decide) rfl
    simp only [k0_cond1, e0, e1]
    word_cmp
   : ∀ t : Fin grid0.N, k0_cond1 (grid0.coords t) = 1#1 ↔ t.val % 27 = 26)

/-- The second coordinate of point `t`. -/
theorem coord1 : ∀ t : Fin cfg0.N, (grid0.coords t 1).val = t.val % 27 :=
  (fun t => by
    have e1 : (grid0.coords t 1).val = t.val / 1 % 27 := Pipeline.Grid.coords_val t 1 (by decide) rfl
    rw [e1, Nat.div_one]
   : ∀ t : Fin grid0.N, (grid0.coords t 1).val = t.val % 27)

/-- The first coordinate of point `t`. -/
theorem coord0 : ∀ t : Fin cfg0.N, (grid0.coords t 0).val = t.val / 27 :=
  (fun t => by
    have ht : t.val < 243 := Nat.lt_of_lt_of_eq t.isLt N_0
    have e0 : (grid0.coords t 0).val = t.val / 27 % 9 := Pipeline.Grid.coords_val t 0 (by decide) rfl
    rw [e0]; omega
   : ∀ t : Fin grid0.N, (grid0.coords t 0).val = t.val / 27)

/-- Away from the epilogue's points output 4 is idle. -/
theorem idle4 (t : Fin cfg0.N) (h : ¬t.val % 27 = 26) : cfg0.idle 4 (cfg0.grid.coords t) = true := by
  show (!(k0_cond1 (grid0.coords t) == 1#1)) = true
  simp only [Bool.not_eq_true', beq_eq_false_iff_ne]
  exact fun e => h ((hcond t).mp e)
/-- Away from the epilogue's points output 5 is idle. -/
theorem idle5 (t : Fin cfg0.N) (h : ¬t.val % 27 = 26) : cfg0.idle 5 (cfg0.grid.coords t) = true := by
  show (!(k0_cond1 (grid0.coords t) == 1#1)) = true
  simp only [Bool.not_eq_true', beq_eq_false_iff_ne]
  exact fun e => h ((hcond t).mp e)
/-- At the epilogue's points output 4 is live. -/
theorem live4 (t : Fin cfg0.N) (h : t.val % 27 = 26) : cfg0.idle 4 (cfg0.grid.coords t) = false := by
  show (!(k0_cond1 (grid0.coords t) == 1#1)) = false
  rw [(hcond t).mpr h]; rfl
/-- At the epilogue's points output 5 is live. -/
theorem live5 (t : Fin cfg0.N) (h : t.val % 27 = 26) : cfg0.idle 5 (cfg0.grid.coords t) = false := by
  show (!(k0_cond1 (grid0.coords t) == 1#1)) = false
  rw [(hcond t).mpr h]; rfl
/-- Away from the epilogue's points output 4 is not written back. -/
theorem noFlush4 (t : Fin cfg0.N) (h : ¬t.val % 27 = 26) : (cfg0.win 4).flush t = false :=
  Bool.eq_false_iff.mpr fun e => h ((flush0_4 t).mp e)
/-- Away from the epilogue's points output 5 is not written back. -/
theorem noFlush5 (t : Fin cfg0.N) (h : ¬t.val % 27 = 26) : (cfg0.win 5).flush t = false :=
  Bool.eq_false_iff.mpr fun e => h ((flush0_5 t).mp e)

/-! ## The accumulator point by point -/

/-- The accumulator buffer. -/
abbrev scM : Memref sig .tc .vmem S1024x5120 .f32 := Memref.whole cc0_scratch0

/-- What the pipeline keeps between points before the first: the accumulator at anything, the generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The accumulator after the first `n` points (before the first: nothing that matters). -/
def scr (c : Dev nD) : (n : ℕ) → n ≤ cfg0.N → Vec F S1024x5120 .f32
  | 0, _ => View.canon []
  | n + 1, hn => accStep (grid0.coords ⟨n, hn⟩) (iblk m c 0 ⟨n, hn⟩) (iblk m c 2 ⟨n, hn⟩) (scr c n (Nat.le_of_lt hn))

/-- The accumulator after point `t`. -/
abbrev scrAt (c : Dev nD) (t : Fin cfg0.N) : Vec F S1024x5120 .f32 := scr m c (t.val + 1) t.isLt

/-- One point's step. -/
theorem scrAt_eq (c : Dev nD) (t : Fin cfg0.N) :
    scrAt m c t = accStep (grid0.coords t) (iblk m c 0 t) (iblk m c 2 t) (scr m c t.val (Nat.le_of_lt t.isLt)) := rfl

/-- The first point of a row block does not look at what the accumulator held. -/
theorem scrAt_first (c : Dev nD) (t : Fin cfg0.N) (h : t.val % 27 = 0) (d : Vec F S1024x5120 .f32) :
    scrAt m c t = accStep (grid0.coords t) (iblk m c 0 t) (iblk m c 2 t) d :=
  accStep_first _ _ _ _ _ ((coord1 t).trans h)

/-- The invariant before point `n`: before the first the accumulator at anything, afterwards at `scr`; and the
    generator register at some state. -/
def PhiS (c : Dev nD) : (n : ℕ) → n ≤ cfg0.N → sProp 𝕄
  | 0, _ => Pipeline.ΦA spec0 c
  | n + 1, hn => iprop(iprop(owns (c : Thread nD τ) scM fullShare (scr m c (n + 1) hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (scr m c (n + 1) hn)) ∗ (∃ r, prngReg c r)) := rfl

theorem PhiS_pos (c : Dev nD) (n : ℕ) (h : n ≤ cfg0.N) (hz : n ≠ 0) :
    PhiS m c n h = iprop(iprop(owns (c : Thread nD τ) scM fullShare (scr m c n h)) ∗ (∃ r, prngReg c r)) := by
  cases n with
  | zero => exact absurd rfl hz
  | succ n => rfl

/-! ## The pipeline's proof data -/

/-- The proof data: the arrays as the region finds them; each input's buffer at its block; the outputs' at the
    requantisation of the accumulator (consulted at the epilogue's points only); the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outScale (scrAt m c t) (iblk m c 1 t) (iblk m c 3 t)
    | ⟨5, _⟩ => outCodes (scrAt m c t) (iblk m c 1 t) (iblk m c 3 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outScale (scrAt m c t) (iblk m c 1 t) (iblk m c 3 t) := by dsimp only [dats]
theorem after0_5 (c : Dev nD) (t : Fin cfg0.N) : (dats m 0 c).after 5 t = outCodes (scrAt m c t) (iblk m c 1 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (st0_0 t) fullShare (iblk m c 0 t) := by
  rw [← after0_0 m c t]
theorem leaves1 (c : Dev nD) (t : Fin cfg0.N) : (dats m 0 c).leavesExact 1 t = owns (c : Thread nD τ) (st0_1 t) fullShare (iblk m c 1 t) := by
  rw [← after0_1 m c t]
theorem leaves2 (c : Dev nD) (t : Fin cfg0.N) : (dats m 0 c).leavesExact 2 t = owns (c : Thread nD τ) (st0_2 t) fullShare (iblk m c 2 t) := by
  rw [← after0_2 m c t]
theorem leaves3 (c : Dev nD) (t : Fin cfg0.N) : (dats m 0 c).leavesExact 3 t = owns (c : Thread nD τ) (st0_3 t) fullShare (iblk m c 3 t) := by
  rw [← after0_3 m c t]
theorem leaves4 (c : Dev nD) (t : Fin cfg0.N) (h : t.val % 27 = 26) : (dats m 0 c).leavesExact 4 t
    = owns (c : Thread nD τ) (st0_4 t) fullShare (outScale (scrAt m c t) (iblk m c 1 t) (iblk m c 3 t)) := by
  rw [← after0_4 m c t]; unfold Dat.leavesExact; rw [live4 t h]
theorem leaves5 (c : Dev nD) (t : Fin cfg0.N) (h : t.val % 27 = 26) : (dats m 0 c).leavesExact 5 t
    = owns (c : Thread nD τ) (st0_5 t) fullShare (outCodes (scrAt m c t) (iblk m c 1 t) (iblk m c 3 t)) := by
  rw [← after0_5 m c t]; unfold Dat.leavesExact; rw [live5 t h]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 243 := lt_of_lt_of_eq t.isLt (show cfg0.N = 243 from N_0)
  by_cases h : t.val % 27 = 26
  · rw [leaves4 m c t h, leaves5 m c t h, PhiS_castSucc m c t, PhiS_pos m c _ _ (by omega)]
    iintro ⟨⟨HS, Hg⟩, Ho, ⟨%d0, H0⟩, ⟨%d1, H1⟩, ⟨%d2, H2⟩, ⟨%d3, H3⟩, ⟨%d4, H4⟩, ⟨%d5, H5⟩⟩
    iapply (run_last c (grid0.coords t) _ _ _ _ _ _ _ _ _ _ _ _ _ _ ((hcond t).mpr h) (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dats m 0 c) 4 t (idle4 t h) (noFlush4 t h), Dat.leavesExact_idle (dats m 0 c) 5 t (idle5 t h) (noFlush5 t h)]
    by_cases hz : t.val = 0
    · rw [PhiS_castSucc m c t, PhiS_zero m c _ _ hz, PhiA0_eq]
      iintro ⟨⟨⟨%d, HS⟩, Hg⟩, Ho, ⟨%d0, H0⟩, ⟨%d1, H1⟩, ⟨%d2, H2⟩, ⟨%d3, H3⟩, H4, H5⟩
      rw [show scr m c (t.val + 1) t.isLt = accStep (grid0.coords t) (iblk m c 0 t) (iblk m c 2 t) d from scrAt_first m c t (by omega) d]
      iapply (run_acc c (grid0.coords t) _ _ _ _ _ _ _ _ _ _ _ _ _ _ (fun e => h ((hcond t).mp e)) (iblk m c 0 t) (iblk m c 2 t) d Set.univ _)
      isplitl [H0]; · iexact H0
      isplitl [H2]; · iexact H2
      isplitl [HS]; · iexact HS
      iintro ⟨H0, H2, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨HS, Hg⟩, Ho, ⟨%d0, H0⟩, ⟨%d1, H1⟩, ⟨%d2, H2⟩, ⟨%d3, H3⟩, H4, H5⟩
      iapply (run_acc c (grid0.coords t) _ _ _ _ _ _ _ _ _ _ _ _ _ _ (fun e => h ((hcond t).mp e)) (iblk m c 0 t) (iblk m c 2 t) _ Set.univ _)
      isplitl [H0]; · iexact H0
      isplitl [H2]; · iexact H2
      isplitl [HS]; · iexact HS
      iintro ⟨H0, H2, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 243 := N_0; omega), PhiA0_eq]
  iintro ⟨HS0, Hg⟩
  isplitl [HS0]
  · iexists _; iexact HS0
  iexact Hg

/-! ## The run and the frame -/

set_option backward.isDefEq.respectTransparency.types false in
set_option maxHeartbeats 800000 in
/-- The launch: every weakly fair execution ends, with every array of the pipeline at what the proof data computes, every
    other buffer as the lines after the region leave it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME CLAIM, at any values: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Run

end
-- ==== Proof.Value.Power.lean ====
/- The row scale as a function of one extended real: the kernel's search of an exponent field and its power of two from
   a bit pattern, the reference's least exponent and its power, and their equality. -/
module

public import Idealize.ShloMosaic.PureOps.Ideal.Laws
public import Idealize.ShloMosaic.Lib.ValueIdx
public import Mathlib.Tactic.IntervalCases

@[expose] public section

noncomputable section

namespace Cert.Value

open Idealize.ShloMosaic Idealize.ShloMosaic.ValueIdx

/-! ## The powers of two by exponent field -/

/-- The value with exponent field `n`, significand zero. -/
def pw (n : ℕ) : EReal := Ideal.ofBits .f32 (BitVec.ofNat 32 n <<< 23)

theorem toNat_bits (n : ℕ) (h : n ≤ 255) : (BitVec.ofNat 32 n <<< 23).toNat = n * 2 ^ 23 := by
  rw [BitVec.toNat_shiftLeft, BitVec.toNat_ofNat, Nat.shiftLeft_eq, Nat.mod_eq_of_lt (by omega : n < 2 ^ 32), Nat.mod_eq_of_lt (by omega)]

theorem field_bits (n : ℕ) (h : n ≤ 255) :
    ((BitVec.ofNat 32 n <<< 23).extractLsb' 23 8).toNat = n ∧ ((BitVec.ofNat 32 n <<< 23).extractLsb' 0 23).toNat = 0
      ∧ (BitVec.ofNat 32 n <<< 23).extractLsb' 31 1 = 0#1 := by
  refine ⟨?_, ?_, ?_⟩
  · rw [BitVec.extractLsb'_toNat, toNat_bits n h, Nat.shiftRight_eq_div_pow]; omega
  · rw [BitVec.extractLsb'_toNat, toNat_bits n h, Nat.shiftRight_eq_div_pow]; omega
  · apply BitVec.eq_of_toNat_eq
    rw [BitVec.extractLsb'_toNat, toNat_bits n h, Nat.shiftRight_eq_div_pow, BitVec.toNat_ofNat]; omega

/-- A pattern whose sign and significand fields are zero, read off its exponent field. -/
theorem ieee_field (b : BitVec 32) (n : ℕ) (e1 : (b.extractLsb' 23 8).toNat = n) (e2 : (b.extractLsb' 0 23).toNat = 0) (e3 : b.extractLsb' 31 1 = 0#1) :
    Ideal.ieee 8 23 b = if n = 255 then ⊤ else if n = 0 then 0 else (((2 : ℝ) ^ ((n : ℤ) - 127) : ℝ) : EReal) := by
  have hneg : (b.extractLsb' (8 + 23) 1 == 1#1) = false := by rw [show 8 + 23 = 31 from rfl, e3]; rfl
  unfold Ideal.ieee
  simp only [e1, e2, hneg]
  by_cases h255 : n = 255
  · rw [if_pos h255, if_pos (by omega)]; rfl
  rw [if_neg h255, if_neg (by omega)]
  by_cases h0 : n = 0
  · rw [if_pos h0, if_pos h0]; norm_num
  rw [if_neg h0, if_neg h0]
  refine congrArg Real.toEReal ?_
  have h23 : ((n : ℤ) - (2 ^ (8 - 1) - 1) - ((23 : ℕ) : ℤ)) = ((n : ℤ) - 127) + (-23) := by norm_num; ring
  rw [h23, zpow_add₀ (by norm_num : (2 : ℝ) ≠ 0)]
  generalize (2 : ℝ) ^ ((n : ℤ) - 127) = z
  norm_num
  ring

/-- Read off the fields. -/
theorem pw_eq (n : ℕ) (h : n ≤ 255) : pw n = if n = 255 then ⊤ else if n = 0 then 0 else (((2 : ℝ) ^ ((n : ℤ) - 127) : ℝ) : EReal) :=
  ieee_field _ n (field_bits n h).1 (field_bits n h).2.1 (field_bits n h).2.2

/-- Field 0 is zero. -/
theorem pw_zero : pw 0 = 0 := by rw [pw_eq 0 (by omega)]; simp

/-- Field 255 is infinity. -/
theorem pw_top : pw 255 = ⊤ := by rw [pw_eq 255 (by omega)]; simp

/-- The fields between are the powers of two. -/
theorem pw_mid (n : ℕ) (h1 : 1 ≤ n) (h2 : n ≤ 254) : pw n = (((2 : ℝ) ^ ((n : ℤ) - 127) : ℝ) : EReal) := by
  rw [pw_eq n (by omega), if_neg (by omega), if_neg (by omega)]

/-- They grow with the field. -/
theorem pw_lt {n k : ℕ} (h : n < k) (hk : k ≤ 255) : pw n < pw k := by
  rcases Nat.eq_zero_or_pos n with rfl | hn
  · rw [pw_zero]
    rcases Nat.lt_or_ge k 255 with h' | h'
    · rw [pw_mid k (by omega) (by omega)]; exact_mod_cast zpow_pos (by norm_num : (0 : ℝ) < 2) _
    · obtain rfl : k = 255 := by omega
      rw [pw_top]; exact EReal.zero_lt_top
  · rw [pw_mid n hn (by omega)]
    rcases Nat.lt_or_ge k 255 with h' | h'
    · rw [pw_mid k (by omega) (by omega), EReal.coe_lt_coe_iff]
      exact zpow_lt_zpow_right₀ (by norm_num) (by omega)
    · obtain rfl : k = 255 := by omega
      rw [pw_top]; exact EReal.coe_lt_top _

theorem pw_le {n k : ℕ} (h : n ≤ k) (hk : k ≤ 255) : pw n ≤ pw k := by
  rcases Nat.eq_or_lt_of_le h with rfl | h'
  · exact le_rfl
  · exact (pw_lt h' hk).le

/-- `exp2` at an integer is the power. -/
theorem exp2_int (z : ℤ) : Ideal.exp2 (((z : ℝ)) : EReal) = (((2 : ℝ) ^ z : ℝ) : EReal) := by
  show ((Real.rpow 2 (z : ℝ) : ℝ) : EReal) = _
  congr 1
  exact Real.rpow_intCast 2 z

/-! ## The kernel's search for the exponent field -/

/-- One comparison of the search: the field `f` with `b` added, kept if its power is at most `q`. -/
def step (q : EReal) (f b : BitVec 32) : BitVec 32 :=
  Scalar.select (Ideal.cmp .oge q (Ideal.ofBits .f32 (IntOp.shli .vector (IntOp.addi f b) 23#32))) (IntOp.addi f b) f

/-- The same on numbers. -/
def stepN (q : EReal) (n b : ℕ) : ℕ := if pw (n + b) ≤ q then n + b else n

theorem shl_ofNat (n : ℕ) : IntOp.shli .vector (BitVec.ofNat 32 n) 23#32 = BitVec.ofNat 32 n <<< 23 := by
  unfold IntOp.shli
  rw [if_pos (by decide)]; rfl

theorem step_ofNat (q : EReal) (n b : ℕ) (h : n + b ≤ 255) : step q (BitVec.ofNat 32 n) (BitVec.ofNat 32 b) = BitVec.ofNat 32 (stepN q n b) := by
  have ha : IntOp.addi (BitVec.ofNat 32 n) (BitVec.ofNat 32 b) = BitVec.ofNat 32 (n + b) := by
    unfold IntOp.addi; rw [BitVec.ofNat_add]
  unfold step stepN
  rw [ha, shl_ofNat]
  show Scalar.select (Ideal.cmp .oge q (pw (n + b))) _ _ = _
  unfold Ideal.cmp
  by_cases hq : pw (n + b) ≤ q
  · rw [if_pos hq]; simp only [hq, decide_true]; rfl
  · rw [if_neg hq]; simp only [hq, decide_false]; rfl

/-- The state of the search: `n` is a field whose power is at most `q` (or zero), and `u` one whose power is above it (or 256). -/
def Bracket (q : EReal) (n u : ℕ) : Prop := (n = 0 ∨ pw n ≤ q) ∧ (u = 256 ∨ q < pw u)

/-- One comparison halves the bracket. -/
theorem bracket_step (q : EReal) (n b : ℕ) (h : Bracket q n (n + (b + b))) : Bracket q (stepN q n b) (stepN q n b + b) := by
  unfold stepN
  by_cases hq : pw (n + b) ≤ q
  · rw [if_pos hq]; exact ⟨.inr hq, by rw [Nat.add_assoc]; exact h.2⟩
  · rw [if_neg hq]; exact ⟨h.1, .inr (not_le.mp hq)⟩

/-- The field the kernel finds. -/
def field (q : EReal) : BitVec 32 :=
  step q (step q (step q (step q (step q (step q (step q (step q 0#32 128#32) 64#32) 32#32) 16#32) 8#32) 4#32) 2#32) 1#32

theorem stepN_le (q : EReal) (n b : ℕ) : stepN q n b ≤ n + b := by unfold stepN; split <;> omega

/-- It is a field at most 255 whose power is at most `q` (or field 0) and whose successor's is above (or field 255). -/
theorem field_eq (q : EReal) : ∃ n : ℕ, field q = BitVec.ofNat 32 n ∧ n ≤ 255 ∧ (n = 0 ∨ pw n ≤ q) ∧ (n = 255 ∨ q < pw (n + 1)) := by
  have b0 : Bracket q 0 (0 + (128 + 128)) := ⟨.inl rfl, .inl rfl⟩
  have l1 := stepN_le q 0 128
  have b1 := bracket_step q 0 128 b0
  generalize h1 : stepN q 0 128 = n1 at *
  have l2 := stepN_le q n1 64
  have b2 := bracket_step q n1 64 b1
  generalize h2 : stepN q n1 64 = n2 at *
  have l3 := stepN_le q n2 32
  have b3 := bracket_step q n2 32 b2
  generalize h3 : stepN q n2 32 = n3 at *
  have l4 := stepN_le q n3 16
  have b4 := bracket_step q n3 16 b3
  generalize h4 : stepN q n3 16 = n4 at *
  have l5 := stepN_le q n4 8
  have b5 := bracket_step q n4 8 b4
  generalize h5 : stepN q n4 8 = n5 at *
  have l6 := stepN_le q n5 4
  have b6 := bracket_step q n5 4 b5
  generalize h6 : stepN q n5 4 = n6 at *
  have l7 := stepN_le q n6 2
  have b7 := bracket_step q n6 2 b6
  generalize h7 : stepN q n6 2 = n7 at *
  have l8 := stepN_le q n7 1
  have b8 := bracket_step q n7 1 b7
  generalize h8 : stepN q n7 1 = n8 at *
  refine ⟨n8, ?_, by omega, b8.1, ?_⟩
  · unfold field
    rw [show step q 0#32 128#32 = BitVec.ofNat 32 n1 from h1 ▸ step_ofNat q 0 128 (by omega),
      show step q (BitVec.ofNat 32 n1) 64#32 = BitVec.ofNat 32 n2 from h2 ▸ step_ofNat q n1 64 (by omega),
      show step q (BitVec.ofNat 32 n2) 32#32 = BitVec.ofNat 32 n3 from h3 ▸ step_ofNat q n2 32 (by omega),
      show step q (BitVec.ofNat 32 n3) 16#32 = BitVec.ofNat 32 n4 from h4 ▸ step_ofNat q n3 16 (by omega),
      show step q (BitVec.ofNat 32 n4) 8#32 = BitVec.ofNat 32 n5 from h5 ▸ step_ofNat q n4 8 (by omega),
      show step q (BitVec.ofNat 32 n5) 4#32 = BitVec.ofNat 32 n6 from h6 ▸ step_ofNat q n5 4 (by omega),
      show step q (BitVec.ofNat 32 n6) 2#32 = BitVec.ofNat 32 n7 from h7 ▸ step_ofNat q n6 2 (by omega),
      show step q (BitVec.ofNat 32 n7) 1#32 = BitVec.ofNat 32 n8 from h8 ▸ step_ofNat q n7 1 (by omega)]
  · rcases b8.2 with h | h
    · left; omega
    · right; exact h

/-- The kernel's exponent: the field less 126; 0 at fields 0 and 255 and where `a` is zero. -/
def expo (q a : EReal) : BitVec 32 :=
  Scalar.select (Ideal.cmp .oeq a (Ideal.ofBits .f32 0x00000000#32)) 0#32
    (Scalar.select (IntOp.ori (IntOp.cmpi .eq (field q) 0#32) (IntOp.cmpi .eq (field q) 255#32)) 0#32 (IntOp.subi (field q) 126#32))

/-- The kernel's power of two: the pattern whose field is `e + 127`, clamped to 0 and 255. -/
def pow2 (e : BitVec 32) : EReal :=
  Ideal.ofBits .f32 (IntOp.shli .vector (IntOp.minsi 255#32 (IntOp.maxsi 0#32 (IntOp.addi e 127#32))) 23#32)

theorem pow2_ofInt (e : ℤ) (h1 : -300 ≤ e) (h2 : e ≤ 300) : pow2 (BitVec.ofInt 32 e) = pw (min 255 (e + 127).toNat) := by
  have hs : IntOp.minsi 255#32 (IntOp.maxsi 0#32 (IntOp.addi (BitVec.ofInt 32 e) 127#32)) = BitVec.ofNat 32 (min 255 (e + 127).toNat) := by
    have ha : IntOp.addi (BitVec.ofInt 32 e) 127#32 = BitVec.ofInt 32 (e + 127) := by
      unfold IntOp.addi; rw [BitVec.ofInt_add]; rfl
    have ht : (BitVec.ofInt 32 (e + 127)).toInt = e + 127 := by
      rw [BitVec.toInt_ofInt]; exact Int.bmod_eq_of_le (by norm_num; omega) (by norm_num; omega)
    rw [ha]
    apply BitVec.eq_of_toInt_eq
    have hr : (BitVec.ofNat 32 (min 255 (e + 127).toNat)).toInt = ((min 255 (e + 127).toNat : ℕ) : ℤ) := by
      rw [← BitVec.ofInt_natCast, BitVec.toInt_ofInt]; exact Int.bmod_eq_of_le (by omega) (by omega)
    rw [hr]
    unfold IntOp.minsi IntOp.maxsi
    simp only [BitVec.slt, ht]
    have z : (0#32 : BitVec 32).toInt = 0 := rfl
    have k : (255#32 : BitVec 32).toInt = 255 := rfl
    by_cases hneg : e + 127 < 0
    · simp only [z, hneg, decide_true, if_true, k]
      rw [show (e + 127).toNat = 0 from by omega]; rfl
    · simp only [z, hneg, decide_false, k]
      by_cases hbig : 255 < e + 127
      · simp [hbig, ht]; omega
      · simp [hbig, ht]; omega
  unfold pow2
  rw [hs, shl_ofNat]
  rfl

/-! ## The reference's exponent and power -/

/-- Exponent `j - 125` of the reference's table. -/
def tab (j : Fin 253) : EReal := ((((BitVec.ofNat 32 j.val).toInt : ℝ)) : EReal) - Ideal.ofBits .f32 0x42FA0000#32

/-- The least exponent of the table whose power is above `q`; 128 if none is. -/
def least (q : EReal) : EReal :=
  (Finset.univ : Finset (Fin 253)).fold min (Ideal.ofBits .f32 0x7F800000#32)
    fun j => Scalar.select (Ideal.cmp .olt q (Ideal.exp2 (tab j))) (tab j) (Ideal.ofBits .f32 0x43000000#32)

/-- The reference's exponent. -/
def rexpo (q a : EReal) : EReal :=
  Scalar.select (IntOp.ori (IntOp.ori (Ideal.cmp .oeq a (Ideal.ofBits .f32 0x00000000#32)) (Ideal.cmp .olt q (Ideal.ofBits .f32 0x00800000#32)))
      (Ideal.cmp .oeq q (Ideal.ofBits .f32 0x7F800000#32)))
    (Ideal.ofBits .f32 0x00000000#32) (least q)

/-- The reference's power of two. -/
def rpow2 (e : EReal) : EReal :=
  Scalar.select (Ideal.cmp .ogt e (Ideal.ofBits .f32 0x42FE0000#32)) (Ideal.ofBits .f32 0x7F800000#32)
    (Scalar.select (Ideal.cmp .olt e (Ideal.ofBits .f32 0xC2FC0000#32)) (Ideal.ofBits .f32 0x00000000#32) (Ideal.exp2 e))

/-! ## The two agree -/

theorem c_zero : Ideal.ofBits .f32 0x00000000#32 = ((0 : ℝ) : EReal) := by
  rw [EReal.coe_zero]; exact pw_zero
theorem c_min : Ideal.ofBits .f32 0x00800000#32 = pw 1 := by unfold pw; rfl
theorem c_inf : Ideal.ofBits .f32 0x7F800000#32 = ⊤ := by rw [← pw_top]; unfold pw; rfl
theorem c_128 : Ideal.ofBits .f32 0x43000000#32 = ((128 : ℝ) : EReal) := by
  have h : Ideal.ofBits .f32 0x43000000#32 = pw 134 := by unfold pw; rfl
  rw [h, pw_mid 134 (by omega) (by omega)]; norm_num
theorem c_125 : Ideal.ofBits .f32 0x42FA0000#32 = ((125 : ℝ) : EReal) := by
  have e1 : ((0x42FA0000#32 : BitVec 32).extractLsb' 23 8).toNat = 133 := by decide
  have e2 : ((0x42FA0000#32 : BitVec 32).extractLsb' 0 23).toNat = 7995392 := by decide
  have e3 : ((0x42FA0000#32 : BitVec 32).extractLsb' (8 + 23) 1 == 1#1) = false := by decide
  have h : Ideal.ofBits .f32 0x42FA0000#32 = Ideal.ieee 8 23 (0x42FA0000#32 : BitVec 32) := by unfold Ideal.ofBits; rfl
  rw [h]; unfold Ideal.ieee; simp only [e1, e2, e3]
  rw [if_neg (by omega), if_neg (by omega)]
  refine congrArg Real.toEReal ?_
  norm_num
theorem c_127 : Ideal.ofBits .f32 0x42FE0000#32 = ((127 : ℝ) : EReal) := by
  have e1 : ((0x42FE0000#32 : BitVec 32).extractLsb' 23 8).toNat = 133 := by decide
  have e2 : ((0x42FE0000#32 : BitVec 32).extractLsb' 0 23).toNat = 8257536 := by decide
  have e3 : ((0x42FE0000#32 : BitVec 32).extractLsb' (8 + 23) 1 == 1#1) = false := by decide
  have h : Ideal.ofBits .f32 0x42FE0000#32 = Ideal.ieee 8 23 (0x42FE0000#32 : BitVec 32) := by unfold Ideal.ofBits; rfl
  rw [h]; unfold Ideal.ieee; simp only [e1, e2, e3]
  rw [if_neg (by omega), if_neg (by omega)]
  refine congrArg Real.toEReal ?_
  norm_num
theorem c_neg126 : Ideal.ofBits .f32 0xC2FC0000#32 = ((-126 : ℝ) : EReal) := by
  have e1 : ((0xC2FC0000#32 : BitVec 32).extractLsb' 23 8).toNat = 133 := by decide
  have e2 : ((0xC2FC0000#32 : BitVec 32).extractLsb' 0 23).toNat = 8126464 := by decide
  have e3 : ((0xC2FC0000#32 : BitVec 32).extractLsb' (8 + 23) 1 == 1#1) = true := by decide
  have h : Ideal.ofBits .f32 0xC2FC0000#32 = Ideal.ieee 8 23 (0xC2FC0000#32 : BitVec 32) := by unfold Ideal.ofBits; rfl
  rw [h]; unfold Ideal.ieee; simp only [e1, e2, e3]
  rw [if_neg (by omega), if_neg (by omega)]
  refine congrArg Real.toEReal ?_
  norm_num

/-- A comparison's select is the `if`. -/
theorem sel_ofBool {α : Type} (b : Bool) (x y : α) : Scalar.select (BitVec.ofBool b) x y = if b = true then x else y := by
  cases b <;> rfl

theorem ofBool_or (a b : Bool) : IntOp.ori (BitVec.ofBool a) (BitVec.ofBool b) = BitVec.ofBool (a || b) := by
  cases a <;> cases b <;> rfl

theorem tab_eq (j : Fin 253) : tab j = ((((j.val : ℤ) - 125 : ℤ) : ℝ) : EReal) := by
  unfold tab
  have h : (BitVec.ofNat 32 j.val).toInt = (j.val : ℤ) := by
    rw [← BitVec.ofInt_natCast, BitVec.toInt_ofInt]; exact Int.bmod_eq_of_le (by omega) (by omega)
  rw [h, c_125, ← EReal.coe_sub]
  push_cast; rfl

theorem exp2_tab (j : Fin 253) : Ideal.exp2 (tab j) = pw (j.val + 2) := by
  rw [tab_eq, exp2_int, pw_mid (j.val + 2) (by omega) (by omega)]
  congr 2
  push_cast; ring

/-- The least exponent where `q` lies between two neighbouring powers. -/
theorem least_eq (q : EReal) (n : ℕ) (h1 : 1 ≤ n) (h2 : n ≤ 254) (hl : pw n ≤ q) (hu : q < pw (n + 1)) :
    least q = ((((n : ℤ) - 126 : ℤ) : ℝ) : EReal) := by
  have hf : ∀ j : Fin 253, Scalar.select (Ideal.cmp .olt q (Ideal.exp2 (tab j))) (tab j) (Ideal.ofBits .f32 0x43000000#32)
      = if q < pw (j.val + 2) then ((((j.val : ℤ) - 125 : ℤ) : ℝ) : EReal) else ((128 : ℝ) : EReal) := by
    intro j
    rw [exp2_tab, c_128]
    show Scalar.select (BitVec.ofBool (decide (q < pw (j.val + 2)))) _ _ = _
    rw [sel_ofBool, tab_eq]; simp only [decide_eq_true_eq]
  unfold least
  rw [c_inf]
  refine le_antisymm ?_ ?_
  · rw [Finset.fold_min_le]
    right
    by_cases h : n ≤ 253
    · refine ⟨⟨n - 1, by omega⟩, Finset.mem_univ _, ?_⟩
      rw [hf]
      dsimp only
      rw [show n - 1 + 2 = n + 1 from by omega, if_pos hu, EReal.coe_le_coe_iff]
      exact_mod_cast (by omega : ((n - 1 : ℕ) : ℤ) - 125 ≤ (n : ℤ) - 126)
    · refine ⟨⟨0, by omega⟩, Finset.mem_univ _, ?_⟩
      rw [hf]
      dsimp only
      rw [if_neg (not_lt.mpr ((pw_le (by omega) (by omega)).trans hl)), EReal.coe_le_coe_iff]
      exact_mod_cast (by omega : (128 : ℤ) ≤ (n : ℤ) - 126)
  · rw [Finset.le_fold_min]
    refine ⟨le_top, fun j _ => ?_⟩
    rw [hf]
    split
    · next hj =>
      rw [EReal.coe_le_coe_iff]
      have : n < j.val + 2 := by
        by_contra hc
        exact absurd (hj.trans_le ((pw_le (not_lt.mp hc) (by omega)).trans hl)) (lt_irrefl _)
      exact_mod_cast (by omega : (n : ℤ) - 126 ≤ (j.val : ℤ) - 125)
    · rw [EReal.coe_le_coe_iff]
      exact_mod_cast (by omega : (n : ℤ) - 126 ≤ 128)

/-- One integer is both exponents. -/
theorem expo_agree (q a : EReal) : ∃ z : ℤ, expo q a = BitVec.ofInt 32 z ∧ rexpo q a = (((z : ℝ)) : EReal) ∧ -126 ≤ z ∧ z ≤ 128 := by
  obtain ⟨n, hn, hle, hl, hu⟩ := field_eq q
  have he : expo q a = if a = 0 then 0#32 else if n = 0 ∨ n = 255 then 0#32 else BitVec.ofInt 32 ((n : ℤ) - 126) := by
    unfold expo
    rw [hn, c_zero, EReal.coe_zero]
    show Scalar.select (BitVec.ofBool (decide (a = 0))) _ (Scalar.select (IntOp.ori (BitVec.ofBool (BitVec.ofNat 32 n == 0#32)) (BitVec.ofBool (BitVec.ofNat 32 n == 255#32))) _ _) = _
    have e0 : (BitVec.ofNat 32 n == 0#32) = decide (n = 0) := by
      rw [Bool.eq_iff_iff, beq_iff_eq, decide_eq_true_eq]
      constructor
      · intro h; have := congrArg BitVec.toNat h; rw [BitVec.toNat_ofNat, BitVec.toNat_ofNat] at this; omega
      · rintro rfl; rfl
    have e1 : (BitVec.ofNat 32 n == 255#32) = decide (n = 255) := by
      rw [Bool.eq_iff_iff, beq_iff_eq, decide_eq_true_eq]
      constructor
      · intro h; have := congrArg BitVec.toNat h; rw [BitVec.toNat_ofNat, BitVec.toNat_ofNat] at this; omega
      · rintro rfl; rfl
    have e2 : IntOp.subi (BitVec.ofNat 32 n) 126#32 = BitVec.ofInt 32 ((n : ℤ) - 126) := by
      unfold IntOp.subi
      apply BitVec.eq_of_toInt_eq
      rw [BitVec.toInt_sub, BitVec.toInt_ofInt, ← BitVec.ofInt_natCast, BitVec.toInt_ofInt,
        Int.bmod_eq_of_le (by omega : _ ≤ (n : ℤ)) (by omega)]
      rfl
    rw [e0, e1, e2, ofBool_or, sel_ofBool, sel_ofBool]
    simp only [decide_eq_true_eq, Bool.or_eq_true]
  have hr : rexpo q a = if (a = 0 ∨ q < pw 1) ∨ q = ⊤ then ((0 : ℝ) : EReal) else least q := by
    unfold rexpo
    rw [c_zero, c_min, c_inf]
    show Scalar.select (IntOp.ori (IntOp.ori (BitVec.ofBool (decide (a = ((0 : ℝ) : EReal)))) (BitVec.ofBool (decide (q < pw 1)))) (BitVec.ofBool (decide (q = ⊤)))) _ _ = _
    rw [ofBool_or, ofBool_or, sel_ofBool, EReal.coe_zero]
    simp only [decide_eq_true_eq, Bool.or_eq_true]
  by_cases ha : a = 0
  · exact ⟨0, by rw [he, if_pos ha]; rfl, by rw [hr, if_pos (.inl (.inl ha))]; norm_num, by omega, by omega⟩
  by_cases h0 : n = 0
  · subst h0
    have hq : q < pw 1 := hu.resolve_left (by omega)
    exact ⟨0, by rw [he, if_neg ha, if_pos (.inl rfl)]; rfl, by rw [hr, if_pos (.inl (.inr hq))]; norm_num, by omega, by omega⟩
  by_cases h255 : n = 255
  · subst h255
    have hq : q = ⊤ := top_le_iff.mp (pw_top ▸ hl.resolve_left (by omega))
    exact ⟨0, by rw [he, if_neg ha, if_pos (.inr rfl)]; rfl, by rw [hr, if_pos (.inr hq)]; norm_num, by omega, by omega⟩
  have hl' := hl.resolve_left h0
  have hu' := hu.resolve_left h255
  refine ⟨(n : ℤ) - 126, by rw [he, if_neg ha, if_neg (by omega)], ?_, by omega, by omega⟩
  rw [hr, if_neg, least_eq q n (by omega) (by omega) hl' hu']
  rintro ((h | h) | h)
  · exact ha h
  · exact absurd (h.trans_le ((pw_le (by omega) (by omega)).trans hl')) (lt_irrefl _)
  · rw [h] at hu'; exact absurd hu' (not_lt.mpr le_top)

/-- The reference's power at an integer. -/
theorem rpow2_int (z : ℤ) (h1 : -300 ≤ z) (h2 : z ≤ 300) : rpow2 (((z : ℝ)) : EReal) = pw (min 255 (z + 127).toNat) := by
  unfold rpow2
  rw [c_127, c_inf, c_neg126, c_zero]
  show Scalar.select (BitVec.ofBool (decide (((127 : ℝ) : EReal) < ((z : ℝ) : EReal)))) _
    (Scalar.select (BitVec.ofBool (decide (((z : ℝ) : EReal) < ((-126 : ℝ) : EReal)))) _ _) = _
  rw [sel_ofBool, sel_ofBool]
  simp only [decide_eq_true_eq, EReal.coe_lt_coe_iff]
  by_cases hb : 127 < z
  · rw [if_pos (by exact_mod_cast hb), show min 255 (z + 127).toNat = 255 from by omega, pw_top]
  rw [if_neg (by exact_mod_cast hb)]
  by_cases hs : z < -126
  · rw [if_pos (by exact_mod_cast hs), show min 255 (z + 127).toNat = 0 from by omega, pw_zero, EReal.coe_zero]
  rw [if_neg (by exact_mod_cast hs), exp2_int, show min 255 (z + 127).toNat = (z + 127).toNat from by omega,
    pw_mid _ (by omega) (by omega)]
  congr 2
  omega

/-- The kernel's scale is the reference's. -/
theorem scale_agree (q a : EReal) : pow2 (expo q a) = rpow2 (rexpo q a) := by
  obtain ⟨z, hk, hr, h1, h2⟩ := expo_agree q a
  rw [hk, hr, pow2_ofInt z (by omega) (by omega), rpow2_int z (by omega) (by omega)]

/-- The kernel's inverse scale is the reference's. -/
theorem inv_agree (q a : EReal) : pow2 (IntOp.subi 0#32 (expo q a)) = rpow2 (Ideal.ofBits .f32 0x00000000#32 - rexpo q a) := by
  obtain ⟨z, hk, hr, h1, h2⟩ := expo_agree q a
  have e1 : IntOp.subi 0#32 (BitVec.ofInt 32 z) = BitVec.ofInt 32 (-z) := by
    unfold IntOp.subi
    rw [BitVec.ofInt_neg]; simp
  have e2 : ((0 : ℝ) : EReal) - ((z : ℝ) : EReal) = (((-z : ℤ) : ℝ) : EReal) := by
    rw [← EReal.coe_sub]; push_cast; rw [zero_sub]
  rw [hk, hr, c_zero, e1, e2, pow2_ofInt (-z) (by omega) (by omega), rpow2_int (-z) (by omega) (by omega)]

end Cert.Value

end
-- ==== Proof.Value.Row.lean ====
/- The payloads of the kernel's requantising loop and of the reference read at a row: both are the same function of the
   row's 5120 values, through the power-of-two exponents of `Power`. -/
module

public import proofs.«01_k».proof.Proof.Value.Power
public import proofs.«01_k».proof.Proof.PI.Point
public import proofs.«01_k».proof.Proof.Gen.ReferenceIdeal.Skeleton
public import Idealize.ShloMosaic.Lib.MatmulPlain
public import Idealize.ShloMosaic.Lib.ValueLayout

@[expose] public section

noncomputable section

namespace Cert.Value

open Idealize.ShloMosaic Idealize.ShloMosaic.ValueIdx

/-! ## A column read, a row reduced -/

/-- A vector as a column reads its row. -/
theorem column_apply {M : ℕ} {α : Type} (v : (⟨1, ![M]⟩ : Shape).Idx → α) (h : (⟨1, ![M]⟩ : Shape).ShapeCasts ⟨2, ![M, 1]⟩) (r : Fin M) (u : Fin 1) :
    shapeCast ⟨2, ![M, 1]⟩ v h (ix2 r u) = v (ix1 r) :=
  shapeCast_apply v h (ix2 r u) (ix1 r) (by
    rw [Shape.rowMajor_val_two, Shape.rowMajor_val_one]
    show r.val = r.val * 1 + u.val
    omega)

/-- A column broadcast along the rows reads the column. -/
theorem broadcastTo_a1_ab_apply {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_row {M N : ℕ} (h : (⟨2, ![M, N]⟩ : Shape).Reduces [1] ⟨1, ![M]⟩) (r : Fin M) (k : Fin N) : h.lift (ix1 r) k = ix2 r k := by
  funext a
  apply Fin.ext
  match a with
  | ⟨0, _⟩ => rfl
  | ⟨1, _⟩ => rfl

/-- A row's maximum. -/
theorem rowMax_apply {M N : ℕ} (x : FVec Ideal ⟨2, ![M, N]⟩ .f32) (acc : BitVec 32) (h : (⟨2, ![M, N]⟩ : Shape).Reduces [1] ⟨1, ![M]⟩)
    (hφ : FKind.Formats .f32) (hacc : acc = FKind.maximumf.neutral .f32 hφ) (r : Fin M) :
    multiReduction (φ := .f32) .maximumf [1] ⟨1, ![M]⟩ x acc h hφ hacc (ix1 r)
      = (Finset.univ : Finset (Fin N)).fold max (Ideal.ofBits .f32 acc) fun k => x (ix2 r k) := by
  refine (Ideal.multiReduction_maximumf_single (φ := .f32) x acc h hφ hacc (ix1 r)).trans ?_
  exact Finset.fold_congr fun k _ => congrArg x (lift_row h r k)

/-- A row's minimum. -/
theorem rowMin_apply {M N : ℕ} (x : FVec Ideal ⟨2, ![M, N]⟩ .f32) (acc : BitVec 32) (h : (⟨2, ![M, N]⟩ : Shape).Reduces [1] ⟨1, ![M]⟩)
    (hφ : FKind.Formats .f32) (hacc : acc = FKind.minimumf.neutral .f32 hφ) (r : Fin M) :
    multiReduction (φ := .f32) .minimumf [1] ⟨1, ![M]⟩ x acc h hφ hacc (ix1 r)
      = (Finset.univ : Finset (Fin N)).fold min (Ideal.ofBits .f32 acc) fun k => x (ix2 r k) := by
  haveI : Std.Commutative (FloatOps.minimumf (F := Ideal) (φ := .f32)) := ⟨fun a b => min_comm (α := EReal) a b⟩
  haveI : Std.Associative (FloatOps.minimumf (F := Ideal) (φ := .f32)) := ⟨fun a b c => min_assoc (α := EReal) a b c⟩
  refine (multiReduction_minimumf_eq_fold (F := Ideal) (φ := .f32) x acc h hφ hacc (ix1 r)).trans ?_
  refine (h.fold_filter_drop_single (FloatOps.minimumf (F := Ideal) (φ := .f32)) _ x (ix1 r)).trans ?_
  refine (Finset.fold_congr fun k _ => congrArg x (lift_row h r k)).trans ?_
  rfl

/-! ## One row requantised -/

/-- The largest magnitude of a row. -/
def amax (y : Fin 5120 → EReal) : EReal :=
  (Finset.univ : Finset (Fin 5120)).fold max (Ideal.ofBits .f32 0xFF800000#32) fun j => max (y j) (-(y j))

/-- The magnitude divided by the largest code. -/
def qarg (y : Fin 5120 → EReal) : EReal := amax y * Ideal.ofBits .f32 0x3B124925#32

/-- The row's exponent, -/
def rowExp (y : Fin 5120 → EReal) : EReal := rexpo (qarg y) (amax y)

/-- its scale -/
def rowScale (y : Fin 5120 → EReal) : EReal := rpow2 (rowExp y)

/-- and its codes: the row by the inverse scale, clipped to ±448. -/
def rowCode (y : Fin 5120 → EReal) (j : Fin 5120) : EReal :=
  min (Ideal.ofBits .f32 0x43E00000#32) (max (Ideal.ofBits .f32 0xC3E00000#32) (y j * rpow2 (Ideal.ofBits .f32 0x00000000#32 - rowExp y)))

/-- A row of dequantised products: the product of the two code arrays by the row's scale and the column's scale. -/
def rrow (x : (⟨2, ![9216, 27648]⟩ : Shape).Idx → EReal) (w : (⟨2, ![27648, 5120]⟩ : Shape).Idx → EReal) (s : (⟨2, ![9216, 1]⟩ : Shape).Idx → EReal)
    (v : (⟨2, ![1, 5120]⟩ : Shape).Idx → EReal) (r : Fin 9216) : Fin 5120 → EReal := fun j =>
  (∑ k : Fin 27648, x (ix2 r k) * w (ix2 k j)) * s (ix2 r (0 : Fin 1)) * v (ix2 (0 : Fin 1) j)

section Kernel

open Cert.KernelIdeal Cert.KernelIdeal.Gen Cert.KernelIdeal.Run

variable (a : Vec Ideal S32x5120 .f32) (s : Vec Ideal S32x1 .f32) (w : Vec Ideal S1x5120 .f32)

/-- The row of dequantised products of a trip. -/
def trow (r : Fin 32) : Fin 5120 → EReal := fun j => a (ix2 r j) * s (ix2 r (0 : Fin 1)) * w (ix2 (0 : Fin 1) j)

theorem pay2_apply (r : Fin 32) (j : Fin 5120) : k0_pay2 a s w (ix2 r j) = trow a s w r j := by
  have e1 : broadcastTo S32x5120 (shapeCast S32x1 s shapeCasts_S32x1_S32x1) broadcasts_S32x1_S32x5120 (ix2 r j) = s (ix2 r (0 : Fin 1)) := by
    rw [shapeCast_self]; exact broadcastTo_a1_ab_apply s _ r j
  have e2 : broadcastTo S32x5120 w broadcasts_S1x5120_S32x5120 (ix2 r j) = w (ix2 (0 : Fin 1) j) := broadcastTo_1b_ab_apply w _ r j
  show a (ix2 r j) * broadcastTo S32x5120 (shapeCast S32x1 s shapeCasts_S32x1_S32x1) broadcasts_S32x1_S32x5120 (ix2 r j)
    * broadcastTo S32x5120 w broadcasts_S1x5120_S32x5120 (ix2 r j) = _
  rw [e1, e2]; rfl

theorem pay3_apply (r : Fin 32) (u : Fin 1) : k0_pay3 a s w (ix2 r u) = amax (trow a s w r) := by
  unfold k0_pay3
  refine (column_apply _ _ r u).trans ?_
  refine (rowMax_apply _ _ _ _ _ r).trans ?_
  refine Finset.fold_congr fun j _ => ?_
  show max (k0_pay2 a s w (ix2 r j)) (-(k0_pay2 a s w (ix2 r j))) = _
  rw [pay2_apply]

theorem pay4_apply (r : Fin 32) (u : Fin 1) : k0_pay4 a s w (ix2 r u) = qarg (trow a s w r) := by
  show k0_pay3 a s w (ix2 r u) * Ideal.ofBits .f32 0x3B124925#32 = _
  rw [pay3_apply]; rfl

/-- A compare of the search over a vector. -/
def stepV (q : FVec Ideal S32x1 .f32) (f : IVec S32x1 32) (b : BitVec 32) : IVec S32x1 32 :=
  select (cmpf .oge q (bitcastToFloat .f32 (shli (addi f (broadcast S32x1 b)) (broadcast S32x1 23#32)))) (addi f (broadcast S32x1 b)) f

theorem stepV_apply (q : FVec Ideal S32x1 .f32) (f : IVec S32x1 32) (b : BitVec 32) (i : S32x1.Idx) : stepV q f b i = step (q i) (f i) b := rfl

theorem pay5_eq : k0_pay5 a s w = stepV (k0_pay4 a s w) (stepV (k0_pay4 a s w) (broadcast S32x1 0#32) 128#32) 64#32 := by
  unfold k0_pay5 stepV
  rfl

/-- The field after the compare with bit 2. -/
theorem pay8_eq : k0_pay8 (k0_pay4 a s w) (k0_pay5 a s w) (k0_pay6 a s w) k0_pay7
      = stepV (k0_pay4 a s w) (stepV (k0_pay4 a s w) (stepV (k0_pay4 a s w) (stepV (k0_pay4 a s w) (stepV (k0_pay4 a s w) (k0_pay5 a s w) 32#32) 16#32) 8#32) 4#32) 2#32 := by
  unfold k0_pay8 k0_pay7 k0_pay6 stepV
  rfl

/-- The exponent of a searched field. -/
def expoV (m : FVec Ideal S32x1 .f32) (f : IVec S32x1 32) : IVec S32x1 32 :=
  select (cmpf .oeq m (broadcast S32x1 (Scalar.ofBits .f32 0x00000000#32))) (broadcast S32x1 0#32)
    (select (ori (cmpi .eq f (broadcast S32x1 0#32)) (cmpi .eq f (broadcast S32x1 255#32))) (broadcast S32x1 0#32) (subi f (broadcast S32x1 126#32)))

theorem expoV_apply (m : FVec Ideal S32x1 .f32) (f : IVec S32x1 32) (i : S32x1.Idx) :
    expoV m f i = Scalar.select (Ideal.cmp .oeq (m i) (Ideal.ofBits .f32 0x00000000#32)) 0#32
      (Scalar.select (IntOp.ori (IntOp.cmpi .eq (f i) 0#32) (IntOp.cmpi .eq (f i) 255#32)) 0#32 (IntOp.subi (f i) 126#32)) := rfl

theorem pay11_eq (m q : FVec Ideal S32x1 .f32) (f5 : IVec S32x1 32) (c6 : IVec S32x1 1) (v7 : IVec S32x1 32) :
    k0_pay11 m (k0_pay8 q f5 c6 v7) (k0_pay9 q f5 c6 v7) k0_pay10 = expoV m (stepV q (k0_pay8 q f5 c6 v7) 1#32) := by
  unfold k0_pay11 k0_pay9 k0_pay10 stepV expoV
  rfl

/-- The kernel's exponent at a row. -/
theorem pay11_apply (r : Fin 32) (u : Fin 1) :
    k0_pay11 (k0_pay3 a s w) (k0_pay8 (k0_pay4 a s w) (k0_pay5 a s w) (k0_pay6 a s w) k0_pay7)
      (k0_pay9 (k0_pay4 a s w) (k0_pay5 a s w) (k0_pay6 a s w) k0_pay7) k0_pay10 (ix2 r u)
      = expo (qarg (trow a s w r)) (amax (trow a s w r)) := by
  rw [pay11_eq, pay8_eq, pay5_eq, expoV_apply]
  simp only [stepV_apply]
  rw [pay4_apply, pay3_apply, show broadcast S32x1 0#32 (ix2 r u) = 0#32 from rfl]
  unfold expo field
  rfl

/-- A trip's scale at a row. -/
theorem tripScale_apply (r : Fin 32) (u : Fin 1) : tripScale a s w (ix2 r u) = rowScale (trow a s w r) := by
  have h := pay11_apply a s w r u
  unfold tripScale k0_pay12
  generalize k0_pay11 (k0_pay3 a s w) (k0_pay8 (k0_pay4 a s w) (k0_pay5 a s w) (k0_pay6 a s w) k0_pay7)
      (k0_pay9 (k0_pay4 a s w) (k0_pay5 a s w) (k0_pay6 a s w) k0_pay7) k0_pay10 = e at *
  show pow2 (e (ix2 r u)) = _
  rw [h, scale_agree]; rfl

/-- A trip's codes at a row. -/
theorem tripCodes_apply (r : Fin 32) (j : Fin 5120) : tripCodes a s w (ix2 r j) = rowCode (trow a s w r) j := by
  have h := pay11_apply a s w r 0
  have h2 := pay2_apply a s w r j
  unfold tripCodes k0_pay13
  generalize k0_pay11 (k0_pay3 a s w) (k0_pay8 (k0_pay4 a s w) (k0_pay5 a s w) (k0_pay6 a s w) k0_pay7)
      (k0_pay9 (k0_pay4 a s w) (k0_pay5 a s w) (k0_pay6 a s w) k0_pay7) k0_pay10 = e at *
  generalize k0_pay2 a s w = y at *
  have hb := broadcastTo_a1_ab_apply (α := EReal) (fun i : S32x1.Idx => pow2 (IntOp.subi 0#32 (e i))) broadcasts_S32x1_S32x5120 r j
  show min (Ideal.ofBits .f32 0x43E00000#32) (max (Ideal.ofBits .f32 0xC3E00000#32) (y (ix2 r j)
    * broadcastTo S32x5120 (fun i : S32x1.Idx => pow2 (IntOp.subi 0#32 (e i))) broadcasts_S32x1_S32x5120 (ix2 r j))) = _
  rw [h2, hb, h, inv_agree]; rfl

end Kernel

section Reference

open Cert.ReferenceIdeal Cert.ReferenceIdeal.Gen

variable (x : Vec Ideal S9216x27648 .fp8e4m3) (w : Vec Ideal S27648x5120 .fp8e4m3) (s : Vec Ideal S9216x1 .f32) (v : Vec Ideal S1x5120 .f32)

/-- One product. -/
def dotAt (x : (⟨2, ![9216, 27648]⟩ : Shape).Idx → EReal) (w : (⟨2, ![27648, 5120]⟩ : Shape).Idx → EReal) (r : Fin 9216) (j : Fin 5120) : EReal :=
  ∑ k : Fin 27648, x (ix2 r k) * w (ix2 k j)

theorem ref3_apply (r : Fin 9216) (j : Fin 5120) : k0_pay3 x w s v (ix2 r j) = rrow x w s v r j := by
  let y : FVec Ideal S9216x5120 .f32 := matmul (F := Ideal) (φ₁ := .fp8e4m3) (φ₂ := .fp8e4m3) dot_S9216x27648_S27648x5120_S9216x5120_1_0_0_1_n_n none
    (shapeCast S9216x27648 x shapeCasts_S9216x27648_S9216x27648) w (constant S9216x5120 .f32 0x00000000#32)
  have e0 : y (ix2 r j) = dotAt x w r j := by
    show matmul (F := Ideal) (φ₁ := .fp8e4m3) (φ₂ := .fp8e4m3) dot_S9216x27648_S27648x5120_S9216x5120_1_0_0_1_n_n none
      (shapeCast S9216x27648 x shapeCasts_S9216x27648_S9216x27648) w (constant S9216x5120 .f32 0x00000000#32) (ix2 r j) = _
    rw [shapeCast_self]
    refine (Ideal.matmul_plain_apply (M := 9216) (K := 27648) (N := 5120) none x w _ r j).trans ?_
    show Ideal.ofBits .f32 0x00000000#32 + _ = _
    rw [c_zero, EReal.coe_zero, zero_add]; rfl
  have e1 : broadcastTo S9216x5120 (shapeCast S9216x1 s shapeCasts_S9216x1_S9216x1) broadcasts_S9216x1_S9216x5120 (ix2 r j) = s (ix2 r (0 : Fin 1)) := by
    rw [shapeCast_self]; exact broadcastTo_a1_ab_apply s _ r j
  have e2 : broadcastTo S9216x5120 v broadcasts_S1x5120_S9216x5120 (ix2 r j) = v (ix2 (0 : Fin 1) j) := broadcastTo_1b_ab_apply v _ r j
  show y (ix2 r j)
    * broadcastTo S9216x5120 (shapeCast S9216x1 s shapeCasts_S9216x1_S9216x1) broadcasts_S9216x1_S9216x5120 (ix2 r j)
    * broadcastTo S9216x5120 v broadcasts_S1x5120_S9216x5120 (ix2 r j) = _
  rw [e0, e1, e2]; rfl

/-- The reference's row maxima as a column, -/
def maxV : FVec Ideal S9216x1 .f32 :=
  shapeCast S9216x1 (multiReduction .maximumf [1] S9216 (absf (k0_pay3 x w s v)) 0xFF800000#32 reduces_S9216x5120_S9216 (.inl rfl) rfl) shapeCasts_S9216_S9216x1

theorem maxV_apply (r : Fin 9216) (u : Fin 1) : maxV x w s v (ix2 r u) = amax (rrow x w s v r) := by
  unfold maxV
  refine (column_apply _ _ r u).trans ?_
  refine (rowMax_apply _ _ _ _ _ r).trans ?_
  refine Finset.fold_congr fun j _ => ?_
  show max (k0_pay3 x w s v (ix2 r j)) (-(k0_pay3 x w s v (ix2 r j))) = _
  rw [ref3_apply]

/-- the table of exponents, -/
def tabV : FVec Ideal S1x253 .f32 := subf (sitofp .f32 (iota .tc S1x253 32 [1] iota_S1x253_d1_w32)) (broadcast S1x253 (Scalar.ofBits .f32 0x42FA0000#32))

theorem tabV_apply (j : Fin 253) : tabV (ix2 (0 : Fin 1) j) = tab j := by
  show (((BitVec.ofNat 32 (0 * 253 + j.val)).toInt : ℝ) : EReal) - Ideal.ofBits .f32 0x42FA0000#32 = _
  rw [Nat.zero_mul, Nat.zero_add]; rfl

/-- the magnitudes over 448, -/
def qargV (m : FVec Ideal S9216x1 .f32) : FVec Ideal S9216x1 .f32 := mulf m (broadcast S9216x1 (Scalar.ofBits .f32 0x3B124925#32))

/-- the exponents whose power is above, -/
def selV (q : FVec Ideal S9216x1 .f32) (T : FVec Ideal S1x253 .f32) : FVec Ideal S9216x253 .f32 :=
  select (cmpf .olt (broadcastTo S9216x253 q broadcasts_S9216x1_S9216x253) (broadcastTo S9216x253 (exp2 T) broadcasts_S1x253_S9216x253))
    (broadcastTo S9216x253 (shapeCast S1x253 T shapeCasts_S1x253_S1x253) broadcasts_S1x253_S9216x253) (broadcast S9216x253 (Scalar.ofBits .f32 0x43000000#32))

theorem selV_apply (q : FVec Ideal S9216x1 .f32) (T : FVec Ideal S1x253 .f32) (r : Fin 9216) (j : Fin 253) : selV q T (ix2 r j)
    = Scalar.select (Ideal.cmp .olt (q (ix2 r (0 : Fin 1))) (Ideal.exp2 (T (ix2 (0 : Fin 1) j)))) (T (ix2 (0 : Fin 1) j)) (Ideal.ofBits .f32 0x43000000#32) := by
  have e1 : broadcastTo S9216x253 q broadcasts_S9216x1_S9216x253 (ix2 r j) = q (ix2 r (0 : Fin 1)) := broadcastTo_a1_ab_apply _ _ r j
  have e2 : broadcastTo S9216x253 (exp2 T) broadcasts_S1x253_S9216x253 (ix2 r j) = exp2 T (ix2 (0 : Fin 1) j) := broadcastTo_1b_ab_apply _ _ r j
  have e3 : broadcastTo S9216x253 (shapeCast S1x253 T shapeCasts_S1x253_S1x253) broadcasts_S1x253_S9216x253 (ix2 r j) = T (ix2 (0 : Fin 1) j) := by
    rw [shapeCast_self]; exact broadcastTo_1b_ab_apply _ _ r j
  show Scalar.select (Ideal.cmp .olt (broadcastTo S9216x253 q broadcasts_S9216x1_S9216x253 (ix2 r j)) (broadcastTo S9216x253 (exp2 T) broadcasts_S1x253_S9216x253 (ix2 r j)))
    (broadcastTo S9216x253 (shapeCast S1x253 T shapeCasts_S1x253_S1x253) broadcasts_S1x253_S9216x253 (ix2 r j)) (Ideal.ofBits .f32 0x43000000#32) = _
  rw [e1, e2, e3]; rfl

/-- the least of them, -/
def leastV (q : FVec Ideal S9216x1 .f32) (T : FVec Ideal S1x253 .f32) : FVec Ideal S9216x1 .f32 :=
  shapeCast S9216x1 (multiReduction .minimumf [1] S9216 (selV q T) 0x7F800000#32 reduces_S9216x253_S9216 (.inl rfl) rfl) shapeCasts_S9216_S9216x1

theorem leastV_apply (q : FVec Ideal S9216x1 .f32) (r : Fin 9216) (u : Fin 1) : leastV q tabV (ix2 r u) = least (q (ix2 r (0 : Fin 1))) := by
  unfold leastV
  refine (column_apply _ _ r u).trans ?_
  refine (rowMin_apply _ _ _ _ _ r).trans ?_
  refine Finset.fold_congr fun j _ => ?_
  rw [selV_apply, tabV_apply]

/-- and the exponents. -/
def rexpoV (m q l : FVec Ideal S9216x1 .f32) : FVec Ideal S9216x1 .f32 :=
  select (ori (ori (cmpf .oeq m (broadcast S9216x1 (Scalar.ofBits .f32 0x00000000#32))) (cmpf .olt q (broadcast S9216x1 (Scalar.ofBits .f32 0x00800000#32))))
      (cmpf .oeq q (broadcast S9216x1 (Scalar.ofBits .f32 0x7F800000#32))))
    (broadcast S9216x1 (Scalar.ofBits .f32 0x00000000#32)) l

theorem rexpoV_apply (m q l : FVec Ideal S9216x1 .f32) (i : S9216x1.Idx) : rexpoV m q l i
    = Scalar.select (IntOp.ori (IntOp.ori (Ideal.cmp .oeq (m i) (Ideal.ofBits .f32 0x00000000#32)) (Ideal.cmp .olt (q i) (Ideal.ofBits .f32 0x00800000#32)))
        (Ideal.cmp .oeq (q i) (Ideal.ofBits .f32 0x7F800000#32)))
      (Ideal.ofBits .f32 0x00000000#32) (l i) := rfl

theorem ref4_eq : k0_pay4 x w s v = rexpoV (maxV x w s v) (qargV (maxV x w s v)) (leastV (qargV (maxV x w s v)) tabV) := by
  unfold k0_pay4 rexpoV qargV leastV selV tabV maxV
  rfl

theorem qargV_apply (m : FVec Ideal S9216x1 .f32) (i : S9216x1.Idx) : qargV m i = m i * Ideal.ofBits .f32 0x3B124925#32 := rfl

/-- The reference's exponent at a row. -/
theorem ref4_apply (r : Fin 9216) (u : Fin 1) : k0_pay4 x w s v (ix2 r u) = rowExp (rrow x w s v r) := by
  unfold rowExp rexpo qarg
  rw [ref4_eq, rexpoV_apply, leastV_apply, qargV_apply, qargV_apply, maxV_apply, maxV_apply]

/-- The reference's scale at a row. -/
theorem ref1_apply (e : FVec Ideal S9216x1 .f32) (i : S9216x1.Idx) : k0_pay1 e k0_pay5 i = rpow2 (e i) := rfl

/-- The reference's codes at a row. -/
theorem ref2_apply (y : FVec Ideal S9216x5120 .f32) (e : FVec Ideal S9216x1 .f32) (r : Fin 9216) (j : Fin 5120) :
    k0_pay2 y e (ix2 r j) = min (Ideal.ofBits .f32 0x43E00000#32) (max (Ideal.ofBits .f32 0xC3E00000#32)
      (y (ix2 r j) * rpow2 (Ideal.ofBits .f32 0x00000000#32 - e (ix2 r (0 : Fin 1))))) := by
  have hb := broadcastTo_a1_ab_apply (α := EReal) (fun i : S9216x1.Idx => rpow2 (Ideal.ofBits .f32 0x00000000#32 - e i)) broadcasts_S9216x1_S9216x5120 r j
  rw [← hb]
  rfl

end Reference

end Cert.Value

end
-- ==== Proof.Value.Reference.lean ====
/- What the reference's two results hold: the row scales and the codes of the whole product. -/
module

public import proofs.«01_k».proof.Proof.Value.Row
public import proofs.«01_k».proof.Proof.Gen.ReferenceIdeal.Frame
public import Idealize.ShloMosaic.Lib.Claim

@[expose] public section

noncomputable section

namespace Cert.Value

open Idealize.ShloMosaic Idealize.ShloMosaic.ValueIdx

/-- The scales of all rows. -/
def scales (x : (⟨2, ![9216, 27648]⟩ : Shape).Idx → EReal) (w : (⟨2, ![27648, 5120]⟩ : Shape).Idx → EReal) (s : (⟨2, ![9216, 1]⟩ : Shape).Idx → EReal)
    (v : (⟨2, ![1, 5120]⟩ : Shape).Idx → EReal) : (⟨2, ![9216, 1]⟩ : Shape).Idx → EReal := fun i => rowScale (rrow x w s v (i 0))

/-- The codes of all rows. -/
def codes (x : (⟨2, ![9216, 27648]⟩ : Shape).Idx → EReal) (w : (⟨2, ![27648, 5120]⟩ : Shape).Idx → EReal) (s : (⟨2, ![9216, 1]⟩ : Shape).Idx → EReal)
    (v : (⟨2, ![1, 5120]⟩ : Shape).Idx → EReal) : (⟨2, ![9216, 5120]⟩ : Shape).Idx → EReal := fun i => rowCode (rrow x w s v (i 0)) (i 1)

end Cert.Value

namespace Cert.ReferenceIdeal.Val

open Cert.ReferenceIdeal Cert.ReferenceIdeal.Gen Cert.Value
open Idealize.ShloMosaic Idealize.ShloMosaic.TcCoe Idealize.ShloMosaic.ValueIdx
open Idealize.SL.Sem
open Idealize.ShloMosaic.Pipeline (Dat Cfg Window)

theorem hz2 : (![0, 0] : Fin 2 → Nat) = fun _ => 0 := by funext a; match a with | ⟨0, _⟩ => rfl | ⟨1, _⟩ => rfl

/-! ## The body's stores -/

section Stores

variable (x0 : Vec Ideal S9216x27648 .fp8e4m3) (x1 : Vec Ideal S9216x1 .f32) (x2 : Vec Ideal S27648x5120 .fp8e4m3) (x3 : Vec Ideal S1x5120 .f32)

theorem pay6_eq : k0_pay6 x0 x1 x2 x3 = k0_pay4 x0 x2 x1 x3 := by
  unfold k0_pay6
  rw [View.ld_unit_zero (S := S9216x27648) hz2, View.ld_unit_zero (S := S27648x5120) hz2, View.ld_unit_zero (S := S9216x1) hz2,
    View.ld_unit_zero (S := S1x5120) hz2]

theorem out4_eq : out0_4 x0 x1 x2 x3 = scales x0 x2 x1 x3 := by
  unfold out0_4
  rw [View.canon_unit_zero (S := S9216x1) hz2, pay6_eq]
  funext i
  obtain ⟨r, u, rfl⟩ : ∃ (r : Fin 9216) (u : Fin 1), i = ix2 r u := ⟨i 0, i 1, eq_ix2 i⟩
  rw [ref1_apply, ref4_apply]
  rfl

theorem out5_eq : out0_5 x0 x1 x2 x3 = codes x0 x2 x1 x3 := by
  unfold out0_5
  rw [View.canon_unit_zero (S := S9216x5120) hz2, pay6_eq, View.ld_unit_zero (S := S9216x27648) hz2, View.ld_unit_zero (S := S27648x5120) hz2,
    View.ld_unit_zero (S := S9216x1) hz2, View.ld_unit_zero (S := S1x5120) hz2]
  funext i
  obtain ⟨r, j, rfl⟩ : ∃ (r : Fin 9216) (j : Fin 5120), i = ix2 r j := ⟨i 0, i 1, eq_ix2 i⟩
  rw [ref2_apply, ref3_apply, ref4_apply]
  rfl

end Stores

/-! ## The arrays -/

variable (m : (ℓ : Loc nD τ sig) → Buf (Elt Ideal) ℓ) (ρ : Dev nD → PrngReg)

theorem iblk_0 (c : Dev nD) : iblk m c 0 t0_0 = V m c main_v0 := by
  show (win0_0.blk t0_0).view.read (Elt Ideal) (V m c main_v0) = _
  exact Memref.read_access_unit_zero (Elt Ideal) main_v0
    (show (fun a => (win0_0.index t0_0) a * main_v0.ty.shape.size a) = fun _ => 0 from
      funext fun a => by fin_cases a <;> decide) (fun a => by fin_cases a <;> decide) _
theorem iblk_1 (c : Dev nD) : iblk m c 1 t0_0 = V m c main_v1 := by
  show (win0_1.blk t0_0).view.read (Elt Ideal) (V m c main_v1) = _
  exact Memref.read_access_unit_zero (Elt Ideal) main_v1
    (show (fun a => (win0_1.index t0_0) a * main_v1.ty.shape.size a) = fun _ => 0 from
      funext fun a => by fin_cases a <;> decide) (fun a => by fin_cases a <;> decide) _
theorem iblk_2 (c : Dev nD) : iblk m c 2 t0_0 = V m c main_arg2 := by
  show (win0_2.blk t0_0).view.read (Elt Ideal) (V m c main_arg2) = _
  exact Memref.read_access_unit_zero (Elt Ideal) main_arg2
    (show (fun a => (win0_2.index t0_0) a * main_arg2.ty.shape.size a) = fun _ => 0 from
      funext fun a => by fin_cases a <;> decide) (fun a => by fin_cases a <;> decide) _
theorem iblk_3 (c : Dev nD) : iblk m c 3 t0_0 = V m c main_arg3 := by
  show (win0_3.blk t0_0).view.read (Elt Ideal) (V m c main_arg3) = _
  exact Memref.read_access_unit_zero (Elt Ideal) main_arg3
    (show (fun a => (win0_3.index t0_0) a * main_arg3.ty.shape.size a) = fun _ => 0 from
      funext fun a => by fin_cases a <;> decide) (fun a => by fin_cases a <;> decide) _

theorem read_4 (c : Dev nD) (f : Buf (Elt Ideal) ((c : Thread nD τ).loc main_v2_0)) : (win0_4.blk t0_0).view.read (Elt Ideal) f = f :=
  Memref.read_access_unit_zero (Elt Ideal) main_v2_0
    (show (fun a => (win0_4.index t0_0) a * main_v2_0.ty.shape.size a) = fun _ => 0 from
      funext fun a => by fin_cases a <;> decide) (fun a => by fin_cases a <;> decide) f
theorem read_5 (c : Dev nD) (f : Buf (Elt Ideal) ((c : Thread nD τ).loc main_v2_1)) : (win0_5.blk t0_0).view.read (Elt Ideal) f = f :=
  Memref.read_access_unit_zero (Elt Ideal) main_v2_1
    (show (fun a => (win0_5.index t0_0) a * main_v2_1.ty.shape.size a) = fun _ => 0 from
      funext fun a => by fin_cases a <;> decide) (fun a => by fin_cases a <;> decide) f

theorem flushed_4 (c : Dev nD) : (dats m 0 c).flushed 4 t0_0 = scales (V m c main_v0) (V m c main_arg2) (V m c main_v1) (V m c main_arg3) := by
  show (cfg0.win 4).cut _ ((dats m 0 c).after 4 t0_0) = _
  rw [after0_4, iblk_0, iblk_1, iblk_2, iblk_3, out4_eq]
  exact funext fun _ => rfl
theorem flushed_5 (c : Dev nD) : (dats m 0 c).flushed 5 t0_0 = codes (V m c main_v0) (V m c main_arg2) (V m c main_v1) (V m c main_arg3) := by
  show (cfg0.win 5).cut _ ((dats m 0 c).after 5 t0_0) = _
  rw [after0_5, iblk_0, iblk_1, iblk_2, iblk_3, out5_eq]
  exact funext fun _ => rfl

/-- The scales' array at the end. -/
theorem arrAt_4 (c : Dev nD) : (dats m 0 c).arrAt 4 cfg0.N = scales (V m c main_v0) (V m c main_arg2) (V m c main_v1) (V m c main_arg3) := by
  have hw : ((cfg0.win 4).blk t0_0).view.read (Elt Ideal) ((dats m 0 c).arrAt 4 cfg0.N) = (dats m 0 c).flushed 4 t0_0 := by
    rw [show cfg0.N = t0_0.val + 1 from rfl, (dats m 0 c).arrAt_succ (4 : Fin 6) t0_0, flush0_4, if_pos rfl]
    exact View.read_write_univ _ _
  rw [flushed_4] at hw
  exact (read_4 c _).symm.trans hw
/-- The codes' array at the end. -/
theorem arrAt_5 (c : Dev nD) : (dats m 0 c).arrAt 5 cfg0.N = codes (V m c main_v0) (V m c main_arg2) (V m c main_v1) (V m c main_arg3) := by
  have hw : ((cfg0.win 5).blk t0_0).view.read (Elt Ideal) ((dats m 0 c).arrAt 5 cfg0.N) = (dats m 0 c).flushed 5 t0_0 := by
    rw [show cfg0.N = t0_0.val + 1 from rfl, (dats m 0 c).arrAt_succ (5 : Fin 6) t0_0, flush0_5, if_pos rfl]
    exact View.read_write_univ _ _
  rw [flushed_5] at hw
  exact (read_5 c _).symm.trans hw

/-! ## The host's reshapes -/

theorem V_v0 (c : Dev nD) : V m c main_v0 = shapeCast S9216x27648 (m ((c : Thread nD τ).loc main_arg0)) shapeCasts_S3x3072x27648_S9216x27648 := by
  show StableHlo.after hostOps0 (fun b => m (c, b)) (Proc.devRef .tc main_v0) = _
  after_results
  rfl
theorem V_v1 (c : Dev nD) : V m c main_v1 = shapeCast S9216x1 (m ((c : Thread nD τ).loc main_arg1)) shapeCasts_S3x3072x1_S9216x1 := by
  show StableHlo.after hostOps0 (fun b => m (c, b)) (Proc.devRef .tc main_v1) = _
  after_results
  rfl

theorem W_v3 (c : Dev nD) : Pipeline.afterTail₀ cfgs (dats m) 0 (V0 m) [hostOps1] c main_v3
    = shapeCast S3x3072x1 ((dats m 0 c).arrAt 4 cfg0.N) shapeCasts_S9216x1_S3x3072x1 := by
  unfold Pipeline.afterTail₀
  show StableHlo.after hostOps1 _ (Proc.devRef .tc main_v3) = _
  after_results
  have h := Pipeline.withArrays_arr spec0 launch0.win.arr_inj c (V0 m c) (fun w => (dats m 0 c).arrAt w cfg0.N) 4
  exact congrArg (fun f => shapeCast S3x3072x1 f shapeCasts_S9216x1_S3x3072x1) h
theorem W_v4 (c : Dev nD) : Pipeline.afterTail₀ cfgs (dats m) 0 (V0 m) [hostOps1] c main_v4
    = shapeCast S3x3072x5120 ((dats m 0 c).arrAt 5 cfg0.N) shapeCasts_S9216x5120_S3x3072x5120 := by
  unfold Pipeline.afterTail₀
  show StableHlo.after hostOps1 _ (Proc.devRef .tc main_v4) = _
  after_results
  have h := Pipeline.withArrays_arr spec0 launch0.win.arr_inj c (V0 m c) (fun w => (dats m 0 c).arrAt w cfg0.N) 5
  exact congrArg (fun f => shapeCast S3x3072x5120 f shapeCasts_S9216x5120_S3x3072x5120) h

/-- The two results of the reference, and its arguments unchanged. -/
theorem run : θ_run defs (onTc (τ := τ) (main (F := Ideal))) ⟨m, fun _ => 0, ρ⟩ (fun r => ∀ c : Dev nD,
      r.2.mem ((c.tc : Thread nD τ).loc main_v3) = shapeCast S3x3072x1 (scales (shapeCast S9216x27648 (m ((c : Thread nD τ).loc main_arg0)) shapeCasts_S3x3072x27648_S9216x27648)
          (m ((c : Thread nD τ).loc main_arg2)) (shapeCast S9216x1 (m ((c : Thread nD τ).loc main_arg1)) shapeCasts_S3x3072x1_S9216x1) (m ((c : Thread nD τ).loc main_arg3))) shapeCasts_S9216x1_S3x3072x1
      ∧ r.2.mem ((c.tc : Thread nD τ).loc main_v4) = shapeCast S3x3072x5120 (codes (shapeCast S9216x27648 (m ((c : Thread nD τ).loc main_arg0)) shapeCasts_S3x3072x27648_S9216x27648)
          (m ((c : Thread nD τ).loc main_arg2)) (shapeCast S9216x1 (m ((c : Thread nD τ).loc main_arg1)) shapeCasts_S3x3072x1_S9216x1) (m ((c : Thread nD τ).loc main_arg3))) shapeCasts_S9216x5120_S3x3072x5120
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (unchanged m ρ) (run_main m ρ))
  have e3 := ((h.2 c).2 main_v3 (Pipeline.mem_restRefs_of main_v3 (by decide) (by decide))).trans (W_v3 m c)
  have e4 := ((h.2 c).2 main_v4 (Pipeline.mem_restRefs_of main_v4 (by decide) (by decide))).trans (W_v4 m c)
  rw [arrAt_4, V_v0, V_v1, V_main_arg2, V_main_arg3] at e3
  rw [arrAt_5, V_v0, V_v1, V_main_arg2, V_main_arg3] at e4
  exact ⟨e3, e4, h.1 c⟩

end Cert.ReferenceIdeal.Val

end
-- ==== Proof.Value.Kernel.lean ====
/- What the kernel's two results hold: the row scales and the codes of the whole product. -/
module

public import proofs.«01_k».proof.Proof.Value.Reference
public import proofs.«01_k».proof.Proof.PI.Frame

@[expose] public section

noncomputable section

namespace Cert.KernelIdeal.Val

open Cert.KernelIdeal Cert.KernelIdeal.Gen Cert.KernelIdeal.Run Cert.Value
open Idealize.ShloMosaic Idealize.ShloMosaic.TcCoe Idealize.ShloMosaic.ValueIdx
open Idealize.SL.Sem
open Idealize.ShloMosaic.Pipeline (Dat Cfg Window)

/-! ## One accumulation step -/

theorem sgt_pos : ∀ k : Fin 27, k.val ≠ 0 → Scalar.cmpi .sgt (BitVec.ofNat 32 k.val) 0#32 = 1#1 := by decide

/-- One chunk at an element. -/
theorem chunk_apply (k : Fin 27) (x : Vec Ideal S512x1024 .fp8e4m3) (w : Vec Ideal S1024x512 .fp8e4m3) (a : Vec Ideal S512x512 .f32) (p q : Fin 512) :
    chunk (BitVec.ofNat 32 k.val) x w a (ix2 p q) = (if k.val = 0 then (0 : EReal) else a (ix2 p q)) + ∑ n : Fin 1024, (x (ix2 p n) : EReal) * w (ix2 n q) := by
  unfold chunk
  rw [shapeCast_self, shapeCast_self]
  have e0 : matmul (F := Ideal) (φ₁ := .fp8e4m3) (φ₂ := .fp8e4m3) dot_S512x1024_S1024x512_S512x512_1_0_0_1_n_n none x w (constant S512x512 .f32 0x00000000#32) (ix2 p q)
      = ∑ n : Fin 1024, (x (ix2 p n) : EReal) * w (ix2 n q) := by
    refine (Ideal.matmul_plain_apply (M := 512) (K := 1024) (N := 512) none x w _ p q).trans ?_
    show Ideal.ofBits .f32 0x00000000#32 + _ = _
    rw [c_zero, EReal.coe_zero, zero_add]
  have e1 : (Scalar.select (Scalar.cmpi .sgt (BitVec.ofNat 32 k.val) 0#32) a (broadcast S512x512 (Scalar.ofBits (F := Ideal) .f32 0x00000000#32)) : Vec Ideal S512x512 .f32) (ix2 p q)
      = (if k.val = 0 then (0 : EReal) else a (ix2 p q)) := by
    by_cases h : k.val = 0
    · rw [if_pos h, h]
      show Ideal.ofBits .f32 0x00000000#32 = _
      rw [c_zero, EReal.coe_zero]
    · rw [if_neg h, sgt_pos k h]; rfl
  show (Scalar.select (Scalar.cmpi .sgt (BitVec.ofNat 32 k.val) 0#32) a (broadcast S512x512 (Scalar.ofBits (F := Ideal) .f32 0x00000000#32)) : Vec Ideal S512x512 .f32) (ix2 p q)
    + matmul (F := Ideal) (φ₁ := .fp8e4m3) (φ₂ := .fp8e4m3) dot_S512x1024_S1024x512_S512x512_1_0_0_1_n_n none x w (constant S512x512 .f32 0x00000000#32) (ix2 p q) = _
  rw [e0, e1]

/-- What one step leaves at an element. -/
def stepAt (k : ℕ) (x0 : (⟨2, ![1024, 1024]⟩ : Shape).Idx → EReal) (x2 : (⟨2, ![1024, 5120]⟩ : Shape).Idx → EReal)
    (xs : (⟨2, ![1024, 5120]⟩ : Shape).Idx → EReal) : (⟨2, ![1024, 5120]⟩ : Shape).Idx → EReal := fun y =>
  (if k = 0 then (0 : EReal) else xs y) + ∑ n : Fin 1024, x0 (ix2 (y 0) n) * x2 (ix2 n (y 1))

section Step

variable (i : grid0.Coords) (x0 : Vec Ideal S1024x1024 .fp8e4m3) (x2 : Vec Ideal S1024x5120 .fp8e4m3) (xs : Vec Ideal S1024x5120 .f32)

theorem piece_apply {r q : ℕ}
    (hx : ∀ a, (![r, 0] : Fin 2 → Nat) a + S512x1024.size a ≤ S1024x1024.size a) (hw : ∀ a, (![0, q] : Fin 2 → Nat) a + S1024x512.size a ≤ S1024x5120.size a)
    (ha : ∀ a, (![r, q] : Fin 2 → Nat) a + S512x512.size a ≤ S1024x5120.size a) (y : (piece i x0 x2 xs hx hw ha).1.shape.Idx) :
    (piece i x0 x2 xs hx hw ha).2 y = stepAt (i 1).val x0 x2 xs ((piece i x0 x2 xs hx hw ha).1.emb y) := by
  obtain ⟨p, u, rfl⟩ : ∃ (p : Fin 512) (u : Fin 512), y = ix2 p u := ⟨y 0, y 1, eq_ix2 (n0 := 512) (n1 := 512) y⟩
  refine (chunk_apply (i 1) _ _ _ p u).trans ?_
  unfold stepAt
  refine congrArg₂ (· + ·) rfl (Finset.sum_congr rfl fun n _ => ?_)
  refine congrArg₂ (· * ·) (congrArg x0 (funext fun a => Fin.ext ?_)) (congrArg x2 (funext fun a => Fin.ext ?_))
  · match a with
    | ⟨0, _⟩ => rfl
    | ⟨1, _⟩ => show 0 + 1 * n.val = n.val; omega
  · match a with
    | ⟨0, _⟩ => show 0 + 1 * n.val = n.val; omega
    | ⟨1, _⟩ => rfl

theorem accStep_apply (y : S1024x5120.Idx) : accStep i x0 x2 xs y = stepAt (i 1).val x0 x2 xs y := by
  unfold accStep
  refine View.canon_apply_of_pieces (stepAt (i 1).val x0 x2 xs) (accPieces i x0 x2 xs) ?_ y (accPieces_cover i x0 x2 xs y)
  unfold accPieces
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_⟩ <;> exact piece_apply i x0 x2 xs _ _ _

end Step

/-! ## The last step's requantisation -/

section Last

variable (acc : Vec Ideal S1024x5120 .f32) (x1 : Vec Ideal S1024x1 .f32) (x3 : Vec Ideal S1x5120 .f32)

/-- A row of the scaled accumulator. -/
def srow (acc : (⟨2, ![1024, 5120]⟩ : Shape).Idx → EReal) (x1 : (⟨2, ![1024, 1]⟩ : Shape).Idx → EReal) (x3 : (⟨2, ![1, 5120]⟩ : Shape).Idx → EReal)
    (r : Fin 1024) : Fin 5120 → EReal := fun j => acc (ix2 r j) * x1 (ix2 r (0 : Fin 1)) * x3 (ix2 (0 : Fin 1) j)

theorem trow_eq (r : Fin 1024) : trow (View.ld acc (rowsR (grp r.val r.isLt))) (View.ld x1 (rows1R (grp r.val r.isLt))) x3 ⟨r.val % 32, Nat.mod_lt _ (by decide)⟩
    = srow acc x1 x3 r := by
  funext j
  unfold trow srow
  have hr : 32 * (r.val / 32) + 1 * (r.val % 32) = r.val := by omega
  refine congrArg₂ (· * ·) (congrArg₂ (· * ·) (congrArg acc (funext fun a => Fin.ext ?_)) (congrArg x1 (funext fun a => Fin.ext ?_))) rfl
  · match a with
    | ⟨0, _⟩ => exact hr
    | ⟨1, _⟩ => show 0 + 1 * j.val = j.val; omega
  · match a with
    | ⟨0, _⟩ => exact hr
    | ⟨1, _⟩ => rfl

theorem outScale_apply (r : Fin 1024) (u : Fin 1) : outScale acc x1 x3 (ix2 r u) = rowScale (srow acc x1 x3 r) := by
  have e : outScale acc x1 x3 (ix2 r u) = tripScale (View.ld acc (rowsR (grp r.val r.isLt))) (View.ld x1 (rows1R (grp r.val r.isLt))) x3
      (ix2 (⟨r.val % 32, Nat.mod_lt _ (by decide)⟩ : Fin 32) u) := by
    unfold outScale
    refine congrArg (tripScale _ _ x3) (funext fun a => ?_)
    match a with
    | ⟨0, _⟩ => rfl
    | ⟨1, _⟩ => rfl
  rw [e, tripScale_apply, trow_eq]

theorem outCodes_apply (r : Fin 1024) (j : Fin 5120) : outCodes acc x1 x3 (ix2 r j) = rowCode (srow acc x1 x3 r) j := by
  have e : outCodes acc x1 x3 (ix2 r j) = tripCodes (View.ld acc (rowsR (grp r.val r.isLt))) (View.ld x1 (rows1R (grp r.val r.isLt))) x3
      (ix2 (⟨r.val % 32, Nat.mod_lt _ (by decide)⟩ : Fin 32) j) := by
    unfold outCodes
    refine congrArg (tripCodes _ _ x3) (funext fun a => ?_)
    match a with
    | ⟨0, _⟩ => rfl
    | ⟨1, _⟩ => rfl
  rw [e, tripCodes_apply, trow_eq]

end Last

/-! ## The blocks -/

variable (m : (ℓ : Loc nD τ sig) → Buf (Elt Ideal) ℓ) (ρ : Dev nD → PrngReg)

theorem t_lt (t : Fin cfg0.N) : t.val < 243 := lt_of_lt_of_eq t.isLt (show cfg0.N = 243 from N_0)

theorem idx0 (t : Fin cfg0.N) : (BitVec.ofNat 32 (grid0.coords t 0).val).toNat = t.val / 27 := by
  have h := t_lt t
  rw [BitVec.toNat_ofNat, coord0 t, Nat.mod_eq_of_lt (by omega)]
theorem idx1 (t : Fin cfg0.N) : (BitVec.ofNat 32 (grid0.coords t 1).val).toNat = t.val % 27 := by
  have h := t_lt t
  rw [BitVec.toNat_ofNat, coord1 t, Nat.mod_eq_of_lt (by omega)]

/-- The array row that row `r` of point `t`'s blocks is. -/
def rowOf (t : Fin cfg0.N) (r : Fin 1024) : Fin 9216 := ⟨1024 * (t.val / 27) + r.val, by have := t_lt t; have := r.isLt; omega⟩
/-- The contraction index that index `n` of point `t`'s blocks is. -/
def colOf (t : Fin cfg0.N) (n : Fin 1024) : Fin 27648 := ⟨1024 * (t.val % 27) + n.val, by have := t_lt t; have := n.isLt; omega⟩

theorem iblk_0 (c : Dev nD) (t : Fin cfg0.N) (r n : Fin 1024) : iblk m c 0 t (ix2 r n) = V m c main_v0 (ix2 (rowOf t r) (colOf t n)) := by
  unfold iblk
  rw [View.read_apply]
  show V m c main_v0 _ = _
  refine congrArg (V m c main_v0) (funext fun a => Fin.ext ?_)
  match a with
  | ⟨0, _⟩ => show (BitVec.ofNat 32 (grid0.coords t 0).val).toNat * 1024 + 1 * r.val = 1024 * (t.val / 27) + r.val; rw [idx0]; omega
  | ⟨1, _⟩ => show (BitVec.ofNat 32 (grid0.coords t 1).val).toNat * 1024 + 1 * n.val = 1024 * (t.val % 27) + n.val; rw [idx1]; omega
theorem iblk_1 (c : Dev nD) (t : Fin cfg0.N) (r : Fin 1024) (u : Fin 1) : iblk m c 1 t (ix2 r u) = V m c main_v1 (ix2 (rowOf t r) u) := by
  unfold iblk
  rw [View.read_apply]
  show V m c main_v1 _ = _
  refine congrArg (V m c main_v1) (funext fun a => Fin.ext ?_)
  match a with
  | ⟨0, _⟩ => show (BitVec.ofNat 32 (grid0.coords t 0).val).toNat * 1024 + 1 * r.val = 1024 * (t.val / 27) + r.val; rw [idx0]; omega
  | ⟨1, _⟩ => show 0 * 1 + 1 * u.val = u.val; omega
theorem iblk_2 (c : Dev nD) (t : Fin cfg0.N) (n : Fin 1024) (j : Fin 5120) : iblk m c 2 t (ix2 n j) = V m c main_arg2 (ix2 (colOf t n) j) := by
  unfold iblk
  rw [View.read_apply]
  show V m c main_arg2 _ = _
  refine congrArg (V m c main_arg2) (funext fun a => Fin.ext ?_)
  match a with
  | ⟨0, _⟩ => show (BitVec.ofNat 32 (grid0.coords t 1).val).toNat * 1024 + 1 * n.val = 1024 * (t.val % 27) + n.val; rw [idx1]; omega
  | ⟨1, _⟩ => show 0 * 5120 + 1 * j.val = j.val; omega
theorem iblk_3 (c : Dev nD) (t : Fin cfg0.N) (u : Fin 1) (j : Fin 5120) : iblk m c 3 t (ix2 u j) = V m c main_arg3 (ix2 u j) := by
  unfold iblk
  rw [View.read_apply]
  show V m c main_arg3 _ = _
  refine congrArg (V m c main_arg3) (funext fun a => Fin.ext ?_)
  match a with
  | ⟨0, _⟩ => show 0 * 1 + 1 * u.val = u.val; omega
  | ⟨1, _⟩ => show 0 * 5120 + 1 * j.val = j.val; omega

/-! ## The accumulator -/

/-- The `n`-th product of the contraction at row `R`, column `j` (zero outside the arrays). -/
def prodAt (x : (⟨2, ![9216, 27648]⟩ : Shape).Idx → EReal) (w : (⟨2, ![27648, 5120]⟩ : Shape).Idx → EReal) (R : ℕ) (j : Fin 5120) (n : ℕ) : EReal :=
  if h : R < 9216 ∧ n < 27648 then x (ix2 ⟨R, h.1⟩ ⟨n, h.2⟩) * w (ix2 ⟨n, h.2⟩ j) else 0

/-- All products of a row and a column. -/
theorem prodAt_sum (x : (⟨2, ![9216, 27648]⟩ : Shape).Idx → EReal) (w : (⟨2, ![27648, 5120]⟩ : Shape).Idx → EReal) (R : Fin 9216) (j : Fin 5120) :
    ∑ n ∈ Finset.range 27648, prodAt x w R.val j n = dotAt x w R j := by
  unfold dotAt
  rw [Finset.sum_range]
  refine Finset.sum_congr rfl fun n _ => ?_
  unfold prodAt
  rw [dif_pos ⟨R.isLt, n.isLt⟩]

/-- A row of a left block times a column of a right block. -/
def blockDot (x0 : (⟨2, ![1024, 1024]⟩ : Shape).Idx → EReal) (x2 : (⟨2, ![1024, 5120]⟩ : Shape).Idx → EReal) (r : Fin 1024) (j : Fin 5120) : EReal :=
  ∑ n : Fin 1024, x0 (ix2 r n) * x2 (ix2 n j)

/-- The products one point adds. -/
theorem block_sum (c : Dev nD) (t : Fin cfg0.N) (r : Fin 1024) (j : Fin 5120) :
    blockDot (iblk m c 0 t) (iblk m c 2 t) r j
      = ∑ n ∈ Finset.range 1024, prodAt (V m c main_v0) (V m c main_arg2) (1024 * (t.val / 27) + r.val) j (1024 * (t.val % 27) + n) := by
  unfold blockDot
  rw [Finset.sum_range]
  refine Finset.sum_congr rfl fun n _ => ?_
  rw [iblk_0, iblk_2]
  unfold prodAt
  rw [dif_pos ⟨(rowOf t r).isLt, (colOf t n).isLt⟩]
  rfl

/-- One point's step at an element. -/
theorem scr_succ (c : Dev nD) (t : Fin cfg0.N) (r : Fin 1024) (j : Fin 5120) :
    scr m c (t.val + 1) t.isLt (ix2 r j) = (if t.val % 27 = 0 then (0 : EReal) else scr m c t.val (Nat.le_of_lt t.isLt) (ix2 r j))
      + ∑ n ∈ Finset.range 1024, prodAt (V m c main_v0) (V m c main_arg2) (1024 * (t.val / 27) + r.val) j (1024 * (t.val % 27) + n) := by
  refine (congrFun (scrAt_eq m c t) (ix2 r j)).trans ?_
  rw [accStep_apply]
  unfold stepAt
  rw [coord1 t, ← block_sum]
  rfl

/-- The accumulator after point `t`: the products up to the end of its contraction block. -/
theorem scr_apply (c : Dev nD) (r : Fin 1024) (j : Fin 5120) : ∀ (n : ℕ) (h : n < cfg0.N),
    scr m c (n + 1) h (ix2 r j) = ∑ p ∈ Finset.range (1024 * (n % 27) + 1024), prodAt (V m c main_v0) (V m c main_arg2) (1024 * (n / 27) + r.val) j p
  | 0, h => by
    refine (scr_succ m c ⟨0, h⟩ r j).trans ?_
    rw [if_pos (show (⟨0, h⟩ : Fin cfg0.N).val % 27 = 0 from rfl), zero_add]
    refine Finset.sum_congr rfl fun p _ => ?_
    show prodAt _ _ _ j (0 + p) = _
    rw [Nat.zero_add]
  | n + 1, h => by
    refine (scr_succ m c ⟨n + 1, h⟩ r j).trans ?_
    show (if (n + 1) % 27 = 0 then (0 : EReal) else scr m c (n + 1) _ (ix2 r j)) + _ = _
    rw [Finset.sum_range_add]
    refine congrArg₂ (· + ·) ?_ rfl
    by_cases hz : (n + 1) % 27 = 0
    · rw [if_pos hz, hz]; rfl
    · rw [if_neg hz, scr_apply c r j n (Nat.lt_of_succ_lt h)]
      rw [show 1024 * (n % 27) + 1024 = 1024 * ((n + 1) % 27) by omega, show n / 27 = (n + 1) / 27 by omega]

/-- At a row block's last point the accumulator holds the whole product, -/
theorem scr_last (c : Dev nD) (t : Fin cfg0.N) (h : t.val % 27 = 26) (r : Fin 1024) (j : Fin 5120) :
    scrAt m c t (ix2 r j) = dotAt (V m c main_v0) (V m c main_arg2) (rowOf t r) j := by
  have hs := scr_apply m c r j t.val t.isLt
  rw [h, show 1024 * 26 + 1024 = 27648 by norm_num] at hs
  exact hs.trans (prodAt_sum (V m c main_v0) (V m c main_arg2) (rowOf t r) j)

/-- and its scaled row is the reference's. -/
theorem srow_last (c : Dev nD) (t : Fin cfg0.N) (h : t.val % 27 = 26) (r : Fin 1024) :
    srow (scrAt m c t) (iblk m c 1 t) (iblk m c 3 t) r = rrow (V m c main_v0) (V m c main_arg2) (V m c main_v1) (V m c main_arg3) (rowOf t r) := by
  funext j
  unfold srow
  rw [scr_last m c t h, iblk_1, iblk_3]
  unfold dotAt rrow
  rfl

/-! ## The arrays -/

theorem flushed_4 (c : Dev nD) (t : Fin cfg0.N) (hf : (cfg0.win 4).flush t = true) : (dats m 0 c).flushed 4 t
    = ((cfg0.win 4).blk t).view.read (Elt Ideal) (scales (V m c main_v0) (V m c main_arg2) (V m c main_v1) (V m c main_arg3)) := by
  have h := (flush0_4 t).mp hf
  show (cfg0.win 4).cut (grid0.coords t) ((dats m 0 c).after 4 t) = _
  rw [after0_4]
  funext y
  obtain ⟨r, u, rfl⟩ : ∃ (r : Fin 1024) (u : Fin 1), y = ix2 r u := ⟨y 0, y 1, eq_ix2 (n0 := 1024) (n1 := 1) y⟩
  rw [View.read_apply]
  show outScale (scrAt m c t) (iblk m c 1 t) (iblk m c 3 t) (ix2 r u) = rowScale (rrow _ _ _ _ _)
  rw [outScale_apply, srow_last m c t h]
  refine congrArg (fun i => rowScale (rrow (V m c main_v0) (V m c main_arg2) (V m c main_v1) (V m c main_arg3) i)) (Fin.ext ?_)
  show 1024 * (t.val / 27) + r.val = (BitVec.ofNat 32 (grid0.coords t 0).val).toNat * 1024 + 1 * r.val
  rw [idx0]; omega

theorem flushed_5 (c : Dev nD) (t : Fin cfg0.N) (hf : (cfg0.win 5).flush t = true) : (dats m 0 c).flushed 5 t
    = ((cfg0.win 5).blk t).view.read (Elt Ideal) (codes (V m c main_v0) (V m c main_arg2) (V m c main_v1) (V m c main_arg3)) := by
  have h := (flush0_5 t).mp hf
  show (cfg0.win 5).cut (grid0.coords t) ((dats m 0 c).after 5 t) = _
  rw [after0_5]
  funext y
  obtain ⟨r, j, rfl⟩ : ∃ (r : Fin 1024) (j : Fin 5120), y = ix2 r j := ⟨y 0, y 1, eq_ix2 (n0 := 1024) (n1 := 5120) y⟩
  rw [View.read_apply]
  show outCodes (scrAt m c t) (iblk m c 1 t) (iblk m c 3 t) (ix2 r j) = rowCode (rrow _ _ _ _ _) _
  rw [outCodes_apply, srow_last m c t h]
  refine congrArg₂ (fun i j => rowCode (rrow (V m c main_v0) (V m c main_arg2) (V m c main_v1) (V m c main_arg3) i) j) (Fin.ext ?_) (Fin.ext ?_)
  · show 1024 * (t.val / 27) + r.val = (BitVec.ofNat 32 (grid0.coords t 0).val).toNat * 1024 + 1 * r.val
    rw [idx0]; omega
  · show j.val = 0 * 5120 + 1 * j.val
    omega

/-- The last point of the row block a row lies in. -/
def lastOf (n : ℕ) (h : n < 9216) : Fin cfg0.N := ⟨27 * (n / 1024) + 26, by rw [show cfg0.N = 243 from N_0]; omega⟩

/-- The scales' array at the end. -/
theorem arrAt_4 (c : Dev nD) : (dats m 0 c).arrAt 4 cfg0.N = scales (V m c main_v0) (V m c main_arg2) (V m c main_v1) (V m c main_arg3) :=
  (dats m 0 c).arrAt_eq_of_cover 4 _ (flushed_4 m c) fun i => by
    have h0 : (i 0 : Nat) < 9216 := (i 0).isLt
    have h1 : (i 1 : Nat) < 1 := (i 1).isLt
    have hl : (lastOf (i 0) h0).val = 27 * ((i 0 : Nat) / 1024) + 26 := rfl
    refine ⟨lastOf (i 0) h0, (flush0_4 _).mpr (by rw [hl]; omega), ?_⟩
    show i ∈ ((View.whole main_v2_0).slice (win0_4.rect (lastOf (i 0) h0))).set
    rw [View.set_slice_whole, Rect.mem_set_unit]
    intro a
    match a with
    | ⟨0, _⟩ =>
      show (BitVec.ofNat 32 (grid0.coords (lastOf (i 0) h0) 0).val).toNat * 1024 ≤ (i 0 : Nat)
        ∧ (i 0 : Nat) < (BitVec.ofNat 32 (grid0.coords (lastOf (i 0) h0) 0).val).toNat * 1024 + 1024
      rw [idx0, hl]; omega
    | ⟨1, _⟩ => show 0 * 1 ≤ (i 1 : Nat) ∧ (i 1 : Nat) < 0 * 1 + 1; omega

/-- The codes' array at the end. -/
theorem arrAt_5 (c : Dev nD) : (dats m 0 c).arrAt 5 cfg0.N = codes (V m c main_v0) (V m c main_arg2) (V m c main_v1) (V m c main_arg3) :=
  (dats m 0 c).arrAt_eq_of_cover 5 _ (flushed_5 m c) fun i => by
    have h0 : (i 0 : Nat) < 9216 := (i 0).isLt
    have h1 : (i 1 : Nat) < 5120 := (i 1).isLt
    have hl : (lastOf (i 0) h0).val = 27 * ((i 0 : Nat) / 1024) + 26 := rfl
    refine ⟨lastOf (i 0) h0, (flush0_5 _).mpr (by rw [hl]; omega), ?_⟩
    show i ∈ ((View.whole main_v2_1).slice (win0_5.rect (lastOf (i 0) h0))).set
    rw [View.set_slice_whole, Rect.mem_set_unit]
    intro a
    match a with
    | ⟨0, _⟩ =>
      show (BitVec.ofNat 32 (grid0.coords (lastOf (i 0) h0) 0).val).toNat * 1024 ≤ (i 0 : Nat)
        ∧ (i 0 : Nat) < (BitVec.ofNat 32 (grid0.coords (lastOf (i 0) h0) 0).val).toNat * 1024 + 1024
      rw [idx0, hl]; omega
    | ⟨1, _⟩ => show 0 * 5120 ≤ (i 1 : Nat) ∧ (i 1 : Nat) < 0 * 5120 + 5120; omega

/-! ## The host's reshapes -/

theorem V_v0 (c : Dev nD) : V m c main_v0 = shapeCast S9216x27648 (m ((c : Thread nD τ).loc main_arg0)) shapeCasts_S3x3072x27648_S9216x27648 := by
  show StableHlo.after hostOps0 (fun b => m (c, b)) (Proc.devRef .tc main_v0) = _
  after_results
  rfl
theorem V_v1 (c : Dev nD) : V m c main_v1 = shapeCast S9216x1 (m ((c : Thread nD τ).loc main_arg1)) shapeCasts_S3x3072x1_S9216x1 := by
  show StableHlo.after hostOps0 (fun b => m (c, b)) (Proc.devRef .tc main_v1) = _
  after_results
  rfl

theorem W_v3 (c : Dev nD) : Pipeline.afterTail₀ cfgs (dats m) 0 (V0 m) [hostOps1] c main_v3
    = shapeCast S3x3072x1 ((dats m 0 c).arrAt 4 cfg0.N) shapeCasts_S9216x1_S3x3072x1 := by
  unfold Pipeline.afterTail₀
  show StableHlo.after hostOps1 _ (Proc.devRef .tc main_v3) = _
  after_results
  have h := Pipeline.withArrays_arr spec0 launch0.win.arr_inj c (V0 m c) (fun w => (dats m 0 c).arrAt w cfg0.N) 4
  exact congrArg (fun f => shapeCast S3x3072x1 f shapeCasts_S9216x1_S3x3072x1) h
theorem W_v4 (c : Dev nD) : Pipeline.afterTail₀ cfgs (dats m) 0 (V0 m) [hostOps1] c main_v4
    = shapeCast S3x3072x5120 ((dats m 0 c).arrAt 5 cfg0.N) shapeCasts_S9216x5120_S3x3072x5120 := by
  unfold Pipeline.afterTail₀
  show StableHlo.after hostOps1 _ (Proc.devRef .tc main_v4) = _
  after_results
  have h := Pipeline.withArrays_arr spec0 launch0.win.arr_inj c (V0 m c) (fun w => (dats m 0 c).arrAt w cfg0.N) 5
  exact congrArg (fun f => shapeCast S3x3072x5120 f shapeCasts_S9216x5120_S3x3072x5120) h

/-- The two results of the kernel, and its arguments unchanged. -/
theorem run : θ_run defs (onTc (τ := τ) (main (F := Ideal))) ⟨m, fun _ => 0, ρ⟩ (fun r => ∀ c : Dev nD,
      r.2.mem ((c.tc : Thread nD τ).loc main_v3) = shapeCast S3x3072x1 (scales (shapeCast S9216x27648 (m ((c : Thread nD τ).loc main_arg0)) shapeCasts_S3x3072x27648_S9216x27648)
          (m ((c : Thread nD τ).loc main_arg2)) (shapeCast S9216x1 (m ((c : Thread nD τ).loc main_arg1)) shapeCasts_S3x3072x1_S9216x1) (m ((c : Thread nD τ).loc main_arg3))) shapeCasts_S9216x1_S3x3072x1
      ∧ r.2.mem ((c.tc : Thread nD τ).loc main_v4) = shapeCast S3x3072x5120 (codes (shapeCast S9216x27648 (m ((c : Thread nD τ).loc main_arg0)) shapeCasts_S3x3072x27648_S9216x27648)
          (m ((c : Thread nD τ).loc main_arg2)) (shapeCast S9216x1 (m ((c : Thread nD τ).loc main_arg1)) shapeCasts_S3x3072x1_S9216x1) (m ((c : Thread nD τ).loc main_arg3))) shapeCasts_S9216x5120_S3x3072x5120
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (unchanged m ρ) (run_main m ρ))
  have e3 := ((h.2 c).2 main_v3 (Pipeline.mem_restRefs_of main_v3 (by decide) (by decide))).trans (W_v3 m c)
  have e4 := ((h.2 c).2 main_v4 (Pipeline.mem_restRefs_of main_v4 (by decide) (by decide))).trans (W_v4 m c)
  rw [arrAt_4, V_v0, V_v1, V_main_arg2, V_main_arg3] at e3
  rw [arrAt_5, V_v0, V_v1, V_main_arg2, V_main_arg3] at e4
  exact ⟨e3, e4, h.1 c⟩

end Cert.KernelIdeal.Val

end
-- ==== Proof.Value.Algebraic.lean ====
/- The kernel's two results equal the reference's, over the extended reals. -/
module

public import proofs.«01_k».proof.Defs
public import proofs.«01_k».proof.Proof.Value.Kernel

@[expose] public section

noncomputable section

namespace Cert.Value

open Idealize.ShloMosaic Idealize.ShloMosaic.TcCoe Idealize.SL.Sem

/-- THE VALUE CLAIM: from equal arguments the kernel and the reference both run and end with equal scales and equal codes, their
    arguments unchanged. Both results are the row scales and the row codes of the whole scaled product. -/
theorem algebraic : Cert.algebraic_KernelIdeal_ReferenceIdeal := fun m g m' g' _ hA => by
  refine ⟨_, _, Cert.KernelIdeal.Val.run m g, (θ_run _ _ _).mono (fun r h c => ?_) (Cert.ReferenceIdeal.Val.run m' g')⟩
  obtain ⟨h3, h4, hargs⟩ := h c
  obtain ⟨a0, a1, a2, a3⟩ := hA c
  rw [a0, a1, a2, a3] at h3 h4
  exact ⟨h3, h4, hargs⟩

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.P.Frame
public import proofs.«01_k».proof.Proof.PI.Frame
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

/-- The three frames, the idealization (nothing was rewritten) and the equality of results. -/
theorem claim : Cert.Claim := ⟨Cert.Kernel.Gen.facts, Cert.KernelIdeal.Gen.facts, Cert.ReferenceIdeal.Gen.facts,
  fun m ρ _ => Cert.Kernel.Run.frame m ρ,
  fun m ρ _ => Cert.KernelIdeal.Run.frame m ρ,
  fun m ρ _ => Cert.ReferenceIdeal.Gen.frame m ρ,
  trivial,
  Cert.Value.algebraic⟩

end Cert.Proof

end
